-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_entries_KernelIdeal [hPre_finite_entries_KernelIdeal : Cert.Pre_finite_entries_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_entries_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_entries_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_entries_ReferenceIdeal [hPre_finite_entries_ReferenceIdeal : Cert.Pre_finite_entries_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_entries_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_entries_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_entries_KernelIdeal [hKernelIdeal : Cert.KernelIdeal.Facts] [hPre_finite_entries_KernelIdeal : Cert.Pre_finite_entries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_entries_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_entries_ReferenceIdeal [hReferenceIdeal : Cert.ReferenceIdeal.Facts] [hPre_finite_entries_ReferenceIdeal : Cert.Pre_finite_entries_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_entries_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_entries_KernelIdeal [hKernelIdeal : Cert.KernelIdeal.Facts] [hReferenceIdeal : Cert.ReferenceIdeal.Facts] [hPre_finite_entries_KernelIdeal : Cert.Pre_finite_entries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_entries_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![1024, 512]⟩ ⟨2, ![1024, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_entries_KernelIdeal : Cert.Pre_finite_entries_KernelIdeal.Facts) (hPre_finite_entries_ReferenceIdeal : Cert.Pre_finite_entries_ReferenceIdeal.Facts),
    quiescent_Kernel (hKernel := hKernel)
    ∧ quiescent_KernelIdeal (hKernelIdeal := hKernelIdeal)
    ∧ quiescent_KernelIdeal_pre_finite_entries_KernelIdeal (hKernelIdeal := hKernelIdeal) (hPre_finite_entries_KernelIdeal := hPre_finite_entries_KernelIdeal)
    ∧ quiescent_ReferenceIdeal (hReferenceIdeal := hReferenceIdeal)
    ∧ quiescent_ReferenceIdeal_pre_finite_entries_ReferenceIdeal (hReferenceIdeal := hReferenceIdeal) (hPre_finite_entries_ReferenceIdeal := hPre_finite_entries_ReferenceIdeal)
    ∧ preserves_Kernel_KernelIdeal
    ∧ algebraic_KernelIdeal_ReferenceIdeal_pre_finite_entries_KernelIdeal (hKernelIdeal := hKernelIdeal) (hReferenceIdeal := hReferenceIdeal) (hPre_finite_entries_KernelIdeal := hPre_finite_entries_KernelIdeal)
-- ==== Pre_finite_entries_KernelIdeal.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  bcast_S_S512 : S_.BroadcastsInDim S512 (![] : Fin 0 → Fin S512.rank)

variable [Facts]

def fn {F : FTy → Type} [FloatOps F] (main_arg0 : FVec F S1024x512 .f32) (main_arg1 : FVec F S512 .f32) (main_arg2 : FVec F S512 .f32) : IVec S1024x512 1 × IVec S512 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_v3 : FVec F S512 .f32 := Host.absf main_arg1
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  (main_v2, main_v5)
-- ==== Pre_finite_entries_ReferenceIdeal.lean ====
abbrev S1024x2048 : Shape := ⟨2, ![1024, 2048]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  bcast_S_S2048 : S_.BroadcastsInDim S2048 (![] : Fin 0 → Fin S2048.rank)

variable [Facts]

def fn {F : FTy → Type} [FloatOps F] (main_arg0 : FVec F S1024x2048 .f32) (main_arg1 : FVec F S2048 .f32) (main_arg2 : FVec F S2048 .f32) : IVec S1024x2048 1 × IVec S2048 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  (main_v2, main_v5)
-- ==== Kernel.lean ====
abbrev S1024x512 : Shape := ⟨2, ![1024, 512]⟩
abbrev S512 : Shape := ⟨1, ![512]⟩
abbrev S1x512 : Shape := ⟨2, ![1, 512]⟩
abbrev S2x1024 : Shape := ⟨2, ![2, 1024]⟩
abbrev S3x2x1024 : Shape := ⟨3, ![3, 2, 1024]⟩
abbrev S3 : Shape := ⟨1, ![3]⟩
abbrev S_ : Shape := ⟨0, ![]⟩
abbrev S1024 : Shape := ⟨1, ![1024]⟩
abbrev S1x1024 : Shape := ⟨2, ![1, 1024]⟩
abbrev S1 : Shape := ⟨1, ![1]⟩
abbrev S1x2x1024 : Shape := ⟨3, ![1, 2, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S1024x512, .f32⟩
  | .local _ .vmem, ⟨0, _⟩ => ⟨S1024x512, .f32⟩
  | .local _ .vmem, ⟨1, _⟩ => ⟨S1x512, .f32⟩
  | .local _ .vmem, ⟨2, _⟩ => ⟨S1x512, .f32⟩
  | .local _ .vmem, ⟨3, _⟩ => ⟨S1024x512, .f32⟩
  | .local _ .vmem, ⟨4, _⟩ => ⟨S2x1024, .f32⟩
  | .local _ .vmem, ⟨5, _⟩ => ⟨S3x2x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v27 : BitVec 32 := Scalar.addi v2 c1_i32_18
  let c4_i32_19 : BitVec 32 := 4#32
  let v28 : BitVec 32 := Scalar.remsi v27 c4_i32_19
  let c1_i32_23 : BitVec 32 := 1#32
  let v29 : BitVec 32 := Scalar.muli v28 c1_i32_23
  let v30 : BitVec 32 := Scalar.addi c0_i32_24 v29
  v30.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_27 : BitVec 32 := 2#32
  let v37 : BitVec 32 := Scalar.addi v2 c2_i32_27
  let c4_i32_28 : BitVec 32 := 4#32
  let v38 : BitVec 32 := Scalar.remsi v37 c4_i32_28
  let c1_i32_32 : BitVec 32 := 1#32
  let v39 : BitVec 32 := Scalar.muli v38 c1_i32_32
  let v40 : BitVec 32 := Scalar.addi c0_i32_33 v39
  v40.toNat
def k0_dev6 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_36 : BitVec 32 := 3#32
  let v47 : BitVec 32 := Scalar.addi v2 c3_i32_36
  let c4_i32_37 : BitVec 32 := 4#32
  let v48 : BitVec 32 := Scalar.remsi v47 c4_i32_37
  let c1_i32_41 : BitVec 32 := 1#32
  let v49 : BitVec 32 := Scalar.muli v48 c1_i32_41
  let v50 : BitVec 32 := Scalar.addi c0_i32_42 v49
  v50.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x2048, .f32⟩
  | .hbm, ⟨34, _⟩ => ⟨S1024x2048, .f32⟩
  | .hbm, ⟨35, _⟩ => ⟨S1x2048, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S1024x2048, .f32⟩
  | .hbm, ⟨43, _⟩ => ⟨S1024x2048, .f32⟩
  | .hbm, ⟨44, _⟩ => ⟨S1x2048, .f32⟩
  | .hbm, ⟨45, _⟩ => ⟨S1024x2048, .f32⟩
  | .hbm, ⟨46, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Mesh.lean ====
/-
  The mesh, the buffers and the semaphores as the proof names them.

  Device `c` talks to three peers: peer `k` is `k + 1` places further round the mesh. The kernel signals peer `k`, copies
  its own row statistics into slot `Fin.rev k` of peer `k`, and so receives the statistics of peer `j` in its own slot `j`.
  Everything is stated for a number `k : Fin 3`, so that each step is proved once for the three peers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Regions
public import Idealize.ShloMosaic.Lib.Pipeline.Kit
public import Idealize.ShloMosaic.Lib.Pipeline.RegionTalk
public import Idealize.ShloMosaic.Lib.Pipeline.Launch
public import Idealize.ShloMosaic.Lib.Rounds
public import Idealize.ShloMosaic.Lib.StableHlo
public import Idealize.ShloMosaic.Lib.Tactic
public import Idealize.ShloMosaic.Lib.Pointwise.Index
public import Idealize.ShloMosaic.PureOps

@[expose] public section

noncomputable section

namespace Proof01

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Peers -/

set_option backward.proofsInPublic true in
/-- The device `k + 1` places further round the mesh. -/
def peer (k : Fin 3) (c : Dev nD) : Dev nD := ⟨(c.val + k.val + 1) % 4, Nat.mod_lt _ (by decide)⟩

theorem peer_rev (k : Fin 3) (c : Dev nD) : peer (Fin.rev k) (peer k c) = c := by revert k c; decide
theorem peer_rev' (k : Fin 3) (c : Dev nD) : peer k (peer (Fin.rev k) c) = c := by revert k c; decide

/-- Going to peer `k` is a permutation of the mesh. -/
def around (k : Fin 3) : Dev nD ≃ Dev nD := ⟨peer k, peer (Fin.rev k), peer_rev k, peer_rev' k⟩

theorem dev1_eq (c : Dev nD) : (⟨k0_dev1 c, k0_dev1_lt c⟩ : Dev nD) = peer 0 c := Fin.ext (k0_dev1_eq c)
theorem dev2_eq (c : Dev nD) : (⟨k0_dev2 c, k0_dev2_lt c⟩ : Dev nD) = peer 1 c := Fin.ext (k0_dev2_eq c)
theorem dev3_eq (c : Dev nD) : (⟨k0_dev3 c, k0_dev3_lt c⟩ : Dev nD) = peer 2 c := Fin.ext (k0_dev3_eq c)
theorem dev4_eq (c : Dev nD) : (⟨k0_dev4 c, k0_dev4_lt c⟩ : Dev nD) = peer 0 c := Fin.ext (k0_dev4_eq c)
theorem dev5_eq (c : Dev nD) : (⟨k0_dev5 c, k0_dev5_lt c⟩ : Dev nD) = peer 1 c := Fin.ext (k0_dev5_eq c)
theorem dev6_eq (c : Dev nD) : (⟨k0_dev6 c, k0_dev6_lt c⟩ : Dev nD) = peer 2 c := Fin.ext (k0_dev6_eq c)

/-! ## Buffers -/

abbrev xM : Memref sig .tc .vmem S1024x512 .f32 := Memref.whole cc0_stg0_0
abbrev gM : Memref sig .tc .vmem S1x512 .f32 := Memref.whole cc0_stg1_0
abbrev bM : Memref sig .tc .vmem S1x512 .f32 := Memref.whole cc0_stg2_0
abbrev oM : Memref sig .tc .vmem S1024x512 .f32 := Memref.whole cc0_stg3_0
abbrev statM : Memref sig .tc .vmem S2x1024 .f32 := Memref.whole cc0_scratch0
abbrev commM : Memref sig .tc .vmem S3x2x1024 .f32 := Memref.whole cc0_scratch1

theorem slot_inb (j : Fin 3) : ∀ a, (![j.val, 0, 0] : Fin 3 → ℕ) a + S1x2x1024.size a ≤ S3x2x1024.size a := by
  revert j; decide
/-- The rectangle of slot `j`, -/
abbrev slotRect (j : Fin 3) : Rect S3x2x1024 := Rect.unit (s := S3x2x1024) ![j.val, 0, 0] S1x2x1024.size (slot_inb j)
/-- and the slot. -/
abbrev slotM (j : Fin 3) : Memref sig .tc .vmem S2x1024 .f32 :=
  (commM.slice (slotRect j) (fun _ => rfl)).squeeze S2x1024 squeezes_S1x2x1024_S2x1024

/-! ## Semaphores -/

theorem sem_inb (k : Fin 3) : ∀ a, (![k.val] : Fin 1 → ℕ) a + S1.size a ≤ S3.size a := by revert k; decide

abbrev barS : Sem sig := (SemArray.scalar (sig.barrier 0 rfl) : Sems sig S_).sem
abbrev sendS (k : Fin 3) : DmaSem sig :=
  ((cc0_scratch2.slice (Rect.unit (s := S3) ![k.val] S1.size (sem_inb k))).squeeze S_ squeezes_S1_S_ : DmaSems sig S_).sem
abbrev recvS (k : Fin 3) : DmaSem sig :=
  ((cc0_scratch3.slice (Rect.unit (s := S3) ![k.val] S1.size (sem_inb k))).squeeze S_ squeezes_S1_S_ : DmaSems sig S_).sem

theorem sendS_val (k : Fin 3) : (sendS k).val = 4 + k.val := by revert k; decide
theorem recvS_val (k : Fin 3) : (recvS k).val = 7 + k.val := by revert k; decide

/-- What a semaphore of a device is for: the barrier, the end of the own copy `k`, the arrival in slot `k`, anything else. -/
inductive Role where
  | bar | send (k : Fin 3) | recv (k : Fin 3) | other
  deriving DecidableEq

def third (n : ℕ) : Fin 3 := ⟨n % 3, Nat.mod_lt _ (by decide)⟩

def role : SemLoc sig → Role
  | .reg s => if s = barS then .bar else .other
  | .dma s => if s.val < 4 then .other else if s.val < 7 then .send (third (s.val - 4)) else .recv (third (s.val - 7))

theorem role_bar : role (.reg barS) = .bar := by decide
theorem role_send (k : Fin 3) : role (.dma (sendS k)) = .send k := by revert k; decide
theorem role_recv (k : Fin 3) : role (.dma (recvS k)) = .recv k := by revert k; decide

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The bytes a copy moves, as its semaphores count them. -/
abbrev N : ℕ := (statM : Memref sig .tc .vmem S2x1024 .f32).view.dmaCredit
theorem N_pos : 0 < N := View.dmaCredit_pos _ (by decide)
theorem credit_slot (j : Fin 3) : (slotM j).view.dmaCredit = N := rfl

/-! ## The statistics a device keeps -/

/-- Row 0 the sums of a block's rows, row 1 the sums of their squares. -/
def statsOf (v : S1024x512.Idx → Elt F .f32) : S2x1024.Idx → Elt F .f32 :=
  fun i => if (i 0).val = 0 then k0_pay3 v (ix2 0 (i 1)) else k0_pay4 v (ix2 0 (i 1))

abbrev row0 : Rect S2x1024 := Rect.unit (s := S2x1024) ![0, 0] S1x1024.size inb_S2x1024_S1x1024_0_0
abbrev row1 : Rect S2x1024 := Rect.unit (s := S2x1024) ![1, 0] S1x1024.size inb_S2x1024_S1x1024_1_0

/-- The two stores of the statistics leave them in the buffer, whatever it held. -/
theorem stored_stats (f : (cc0_scratch0 : Ref sig .tc).ty.Contents (Elt F)) (v : S1024x512.Idx → Elt F .f32) :
    (statM.access row1).write (Elt F) ((statM.access row0).write (Elt F) f (k0_pay3 v) Finset.univ) (k0_pay4 v) Finset.univ
      = statsOf v := by
  funext i
  by_cases h : (i 0).val = 0
  · have h1 : i ∉ (statM.access row1).setOn Finset.univ := by
      show i ∉ (statM.access row1).set
      rw [View.set_slice_whole, Rect.mem_set_unit]
      intro hh
      have := (hh 0).1
      simp at this
      omega
    rw [View.write_of_not_mem _ _ _ h1]
    have he : i = (statM.access row0).emb (ix2 0 (i 1)) := by
      funext a
      match a with
      | ⟨0, _⟩ => exact Fin.ext h
      | ⟨1, _⟩ => exact Fin.ext (by show (i 1).val = 0 + 1 * (i 1).val; omega)
    rw [he, View.write_emb_of_mem _ _ (Finset.mem_univ _), ← he]
    unfold statsOf
    rw [if_pos h]; rfl
  · have h2 : (i 0).val = 1 := by have : (i 0).val < 2 := (i 0).isLt; omega
    have he : i = (statM.access row1).emb (ix2 0 (i 1)) := by
      funext a
      match a with
      | ⟨0, _⟩ => exact Fin.ext h2
      | ⟨1, _⟩ => exact Fin.ext (by show (i 1).val = 0 + 1 * (i 1).val; omega)
    rw [he, View.write_emb_of_mem _ _ (Finset.mem_univ _), ← he]
    unfold statsOf
    rw [if_neg h]; rfl

/-! ## The communication buffer is its three slots -/

/-- The elements of slot `j` within the buffer. -/
abbrev slotSet (j : Fin 3) : Finset (cc0_scratch1 : Ref sig .tc).ty.Idx := (slotRect j).set

theorem slot_set (j : Fin 3) : (slotM j).view.set = slotSet j :=
  (View.set_reshape ((View.whole cc0_scratch1).slice (slotRect j)) _).trans (View.set_slice_whole _ _)

theorem slots_cover (i : (cc0_scratch1 : Ref sig .tc).ty.Idx) : ∃ j, i ∈ slotSet j := by
  refine ⟨⟨(i 0).val, (i 0).isLt⟩, ?_⟩
  rw [Rect.mem_set_unit]
  intro a
  match a with
  | ⟨0, _⟩ => exact ⟨Nat.le_refl _, Nat.lt_succ_self _⟩
  | ⟨1, _⟩ => exact ⟨Nat.zero_le _, by show (i 1).val < 0 + 2; have : (i 1).val < 2 := (i 1).isLt; omega⟩
  | ⟨2, _⟩ => exact ⟨Nat.zero_le _, by show (i 2).val < 0 + 1024; have : (i 2).val < 1024 := (i 2).isLt; omega⟩

theorem slots_disjoint (j k : Fin 3) (hjk : j ≠ k) : Disjoint (slotSet j) (slotSet k) := by
  refine Finset.disjoint_left.mpr fun i hi hk => hjk ?_
  rw [Rect.mem_set_unit] at hi hk
  have h1 := hi 0; have h2 := hk 0
  simp at h1 h2
  exact Fin.ext (by omega)

/-- What the kernel reads of slot `j` through the whole buffer, reshaped to two rows, is what the slot holds. -/
theorem read_slot (j : Fin 3) (f : (cc0_scratch1 : Ref sig .tc).ty.Contents (Elt F)) (h) :
    shapeCast S2x1024 ((commM.access (slotRect j)).read (Elt F) f) h = (slotM j).view.read (Elt F) f := rfl

/-- The place in a slot's rectangle of each entry of the two rows, -/
def slotPlace : S2x1024.Idx ≃ S1x2x1024.Idx := Shape.reshapeEquiv squeezes_S1x2x1024_S2x1024.numel_eq
/-- two rows as a slot's rectangle holds them, -/
def asSlot (t : S2x1024.Idx → Elt F .f32) : S1x2x1024.Idx → Elt F .f32 := fun i => t (slotPlace.symm i)

theorem asSlot_cast (t : S2x1024.Idx → Elt F .f32) : shapeCast S2x1024 (asSlot t) shapeCasts_S1x2x1024_S2x1024 = t :=
  funext fun i => congrArg t (slotPlace.symm_apply_apply i)

/-- and a slot's rectangle read through the whole buffer. -/
theorem read_access_slot (j : Fin 3) (f : (cc0_scratch1 : Ref sig .tc).ty.Contents (Elt F)) :
    ((commM : Memref sig .tc .vmem S3x2x1024 .f32).access (slotRect j)).read (Elt F) f
      = asSlot ((slotM j).view.read (Elt F) f) := by
  have h : (slotM j).view.read (Elt F) f = fun y => f ((slotRect j).emb (slotPlace y)) := rfl
  rw [h]
  funext i
  show f ((slotRect j).emb i) = f ((slotRect j).emb (slotPlace (slotPlace.symm i)))
  rw [Equiv.apply_symm_apply]

end Proof01
-- ==== Proof.Protocol.lean ====
/-
  The protocol of the exchange: who pays which semaphore, what each payment hands over, and in what order.

  * The barrier semaphore of device `d` takes one unit from each of its three peers. The unit paid by the device whose
    peer `k` is `d` hands over that device's slot `k`, with the fact that its arrival semaphore for the slot is in use.
  * Copy `k` of device `c` goes to slot `Fin.rev k` of peer `k`. It pays `c`'s own send semaphore `k` with the share of the
    statistics it read, and the peer's arrival semaphore with the slot, which then reads as `c`'s statistics.
  * Every semaphore has one round only. It is closed, at zero, before the kernel returns.
-/
module

public import proofs.«01_k».proof.Proof.Mesh

@[expose] public section

noncomputable section

namespace Proof01

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB := URounds (GSem nD τ sig) (Fin 3)
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- The blocks the kernel is given on device `c`, -/
def xB (c : Dev nD) : (cc0_stg0_0 : Ref sig .tc).ty.Contents (Elt F) := iblk m c (0 : Fin 4) t0_0
def gB (c : Dev nD) : (cc0_stg1_0 : Ref sig .tc).ty.Contents (Elt F) := iblk m c (1 : Fin 4) t0_0
def bB (c : Dev nD) : (cc0_stg2_0 : Ref sig .tc).ty.Contents (Elt F) := iblk m c (2 : Fin 4) t0_0
/-- and the statistics of its `x`. -/
def stat (c : Dev nD) : (cc0_scratch0 : Ref sig .tc).ty.Contents (Elt F) := statsOf (xB m c)

/-! ## Shares of the statistics, one for each copy -/

def sh : Fin 3 → PosShare TreeShare
  | 0 => fullShare.left
  | 1 => fullShare.right.left
  | 2 => fullShare.right.right

/-! ## What a payment hands over -/

def slotPts (j : Fin 3) (c : Dev nD) (f : Buf (Elt F) ((slotM j).view.loc (c : Thread nD τ))) : sProp 𝕄 :=
  (slotM j).view.loc (c : Thread nD τ) ↦[(slotM j).view.set]{fullShare} f

def statPts (q : PosShare TreeShare) (c : Dev nD) : sProp 𝕄 :=
  (statM : Memref sig .tc .vmem S2x1024 .f32).view.loc (c : Thread nD τ)
    ↦[(statM : Memref sig .tc .vmem S2x1024 .f32).view.set]{q} stat m c

/-- A barrier unit paid to `d` from the device whose peer `k` is `d`. -/
def barPay (k : Fin 3) (d : Dev nD) : sProp 𝕄 :=
  iprop((∃ f, slotPts (F := F) k (peer (Fin.rev k) d) f) ∗ reached ER (recvCell (peer (Fin.rev k) d) k) 0)
/-- An arrival in slot `j` of device `c`. -/
def recvPay (j : Fin 3) (c : Dev nD) : sProp 𝕄 :=
  iprop(∃ f, slotPts (F := F) j c f ∗ ⌜(slotM j).view.read (Elt F) f = stat m (peer j c)⌝)

instance slotPts_storable (j : Fin 3) (c : Dev nD) (f) : BI.Storable (upEmb : UEmb _ 𝕄) (slotPts (F := F) j c f) := by
  unfold slotPts; infer_instance
instance statPts_storable (q : PosShare TreeShare) (c : Dev nD) : BI.Storable (upEmb : UEmb _ 𝕄) (statPts (F := F) m q c) := by
  unfold statPts; infer_instance
instance barPay_storable (k : Fin 3) (d : Dev nD) : BI.Storable (upEmb : UEmb _ 𝕄) (barPay (F := F) k d) := by
  unfold barPay; infer_instance
instance recvPay_storable (j : Fin 3) (c : Dev nD) : BI.Storable (upEmb : UEmb _ 𝕄) (recvPay (F := F) m j c) := by
  unfold recvPay; infer_instance

/-! ## The schedule -/

/-- Which duties a semaphore has: the barrier one from each peer, a copy's two semaphores a single one. -/
def dutiesOf : Role → Finset (Fin 3)
  | .bar => Finset.univ
  | .send _ => {0}
  | .recv _ => {0}
  | .other => ∅

def amountOf : Role → ℕ
  | .bar => 1
  | _ => N

def payOf (c : Dev nD) (d : Fin 3) : Role → sProp 𝕄
  | .bar => barPay d c
  | .send k => statPts m (sh k) c
  | .recv k => recvPay m k c
  | .other => iprop(emp)

instance payOf_storable (c : Dev nD) (d : Fin 3) (r : Role) : BI.Storable (upEmb : UEmb _ 𝕄) (payOf (F := F) m c d r) := by
  cases r <;> (unfold payOf; infer_instance)

def sched : Rounds.Schedule (GSem nD τ sig) (Fin 3) 𝕄 where
  duties g r := if r = 0 ∧ g.1.2 = .tc then dutiesOf (role g.2) else ∅
  unitless _ := False
  amount g _ _ := amountOf (role g.2)
  payload g _ d := payOf m g.1.1 d (role g.2)
  amount_pos g _ _ _ := by
    cases role g.2 <;> first | exact Nat.one_pos | exact N_pos

instance sched_storable (g : GSem nD τ sig) (r : ℕ) (d : Fin 3) :
    BI.Storable (upEmb : UEmb _ 𝕄) ((sched (F := F) m).payload g r d) := by
  dsimp only [sched]; infer_instance

section Sched
variable (c : Dev nD) (k : Fin 3)

theorem duties_bar : (sched (F := F) m).duties (barCell c) 0 = Finset.univ := by
  dsimp only [sched]; rw [if_pos ⟨rfl, rfl⟩, role_bar]; rfl
theorem duties_send : (sched (F := F) m).duties (sendCell c k) 0 = {0} := by
  dsimp only [sched]; rw [if_pos ⟨rfl, rfl⟩, role_send]; rfl
theorem duties_recv : (sched (F := F) m).duties (recvCell c k) 0 = {0} := by
  dsimp only [sched]; rw [if_pos ⟨rfl, rfl⟩, role_recv]; rfl
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := by dsimp only [sched]; rw [role_bar]; rfl
theorem amount_send (d : Fin 3) : (sched (F := F) m).amount (sendCell c k) 0 d = N := by dsimp only [sched]; rw [role_send]; rfl
theorem amount_recv (d : Fin 3) : (sched (F := F) m).amount (recvCell c k) 0 d = N := by dsimp only [sched]; rw [role_recv]; rfl

theorem payload_bar (d : Fin 3) : (sched (F := F) m).payload (barCell c) 0 d = barPay d c := by
  dsimp only [sched]; rw [role_bar]; rfl
theorem payload_send (d : Fin 3) : (sched (F := F) m).payload (sendCell c k) 0 d = statPts m (sh k) c := by
  dsimp only [sched]; rw [role_send]; rfl
theorem payload_recv (d : Fin 3) : (sched (F := F) m).payload (recvCell c k) 0 d = recvPay m k c := by
  dsimp only [sched]; rw [role_recv]; rfl

theorem expect_bar : (sched (F := F) m).expect (barCell c) 0 = 3 := by
  unfold Schedule.expect Schedule.amountOf
  rw [duties_bar, Finset.sum_congr rfl fun d _ => amount_bar m c d]; rfl
theorem expect_send : (sched (F := F) m).expect (sendCell c k) 0 = N := by
  unfold Schedule.expect Schedule.amountOf; rw [duties_send, Finset.sum_singleton, amount_send]
theorem expect_recv : (sched (F := F) m).expect (recvCell c k) 0 = N := by
  unfold Schedule.expect Schedule.amountOf; rw [duties_recv, Finset.sum_singleton, amount_recv]

omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl

theorem rest_bar : bigSep ((sched (F := F) m).duties (barCell c) 0 \ ∅) (fun d => (sched (F := F) m).payload (barCell c) 0 d)
    = bigSep Finset.univ (fun d => barPay (F := F) d c) := by
  rw [Finset.sdiff_empty, duties_bar]; exact congrArg (bigSep Finset.univ) (funext fun d => payload_bar m c d)
theorem rest_send : bigSep ((sched (F := F) m).duties (sendCell c k) 0 \ ∅) (fun d => (sched (F := F) m).payload (sendCell c k) 0 d)
    = statPts m (sh k) c := by
  rw [Finset.sdiff_empty, duties_send, bigSep_singleton, payload_send]
theorem rest_recv : bigSep ((sched (F := F) m).duties (recvCell c k) 0 \ ∅) (fun d => (sched (F := F) m).payload (recvCell c k) 0 d)
    = recvPay m k c := by
  rw [Finset.sdiff_empty, duties_recv, bigSep_singleton, payload_recv]

end Sched

/-! ## What a device owes, and in what order it may wait -/

/-- What copy `k` of device `c` pays its peer, and what its signal `k` pays. -/
abbrev copyDue (k : Fin 3) (c : Dev nD) : CellTallies nD τ sig Unit := tallyAt (recvCell (peer k c) (Fin.rev k)) () N
abbrev signalDue (k : Fin 3) (c : Dev nD) : CellTallies nD τ sig Unit := tallyAt (barCell (peer k c)) () 1

/-- Owed while copies 2, then 1, then 0 are still to be made. -/
abbrev due2 (c : Dev nD) : CellTallies nD τ sig Unit := 0 + copyDue 2 c
abbrev due1 (c : Dev nD) : CellTallies nD τ sig Unit := due2 c + copyDue 1 c
def due0 (c : Dev nD) : CellTallies nD τ sig Unit := due1 c + copyDue 0 c
/-- Owed at launch: the three copies and, in front of them, the three signals. -/
def O₀ (c : Dev nD) : CellTallies nD τ sig Unit := due0 c + signalDue 2 c + signalDue 1 c + signalDue 0 c

def L (g : GSem nD τ sig) : Finset Unit := if g.1.2 = .tc then {()} else ∅
/-- The barrier comes before the arrivals, and everything else before the barrier. -/
def levelOf : Role → ℕ
  | .bar => 1
  | .recv _ => 2
  | _ => 0
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [role_bar]; rfl
theorem lv_recv (c : Dev nD) (k : Fin 3) : lv (recvCell c k) () = 2 := by unfold lv; rw [role_recv]; rfl

theorem pos_add {A B : CellTallies nD τ sig Unit} {g : GSem nD τ sig} {u : Unit} (h : 0 < (A + B) g u) : 0 < A g u ∨ 0 < B g u := by
  rw [Pi.add_apply, Finsupp.add_apply] at h; omega
theorem pos_tally {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem due0_pos {c : Dev nD} {g : GSem nD τ sig} {u : Unit} (h : 0 < due0 c g u) : ∃ k, g = recvCell (peer k c) (Fin.rev k) := by
  unfold due0 at h
  rcases pos_add h with h | h
  · rcases pos_add h with h | h
    · rcases pos_add h with h | h
      · exact absurd h (Nat.lt_irrefl 0)
      · exact ⟨2, pos_tally h⟩
    · exact ⟨1, pos_tally h⟩
  · exact ⟨0, pos_tally h⟩

theorem O₀_pos {c : Dev nD} {g : GSem nD τ sig} {u : Unit} (h : 0 < O₀ c g u) :
    (∃ k, g = recvCell (peer k c) (Fin.rev k)) ∨ ∃ k, g = barCell (peer k c) := by
  unfold O₀ at h
  rcases pos_add h with h | h
  · rcases pos_add h with h | h
    · rcases pos_add h with h | h
      · exact .inl (due0_pos h)
      · exact .inr ⟨2, pos_tally h⟩
    · exact .inr ⟨1, pos_tally h⟩
  · exact .inr ⟨0, pos_tally h⟩

/-- A device may wait at the barrier while it owes its three copies. -/
theorem mayWait_bar (c : Dev nD) : (levAts L lv : sProp 𝕄) ⊢ MayWait (c : Thread nD τ) (.reg barS) () (due0 c) :=
  MayOwe.of_cut (L := L) (lev := lv) 1 (fun p hp => by rw [Finset.mem_singleton.mp hp, L_tc]; exact Finset.mem_singleton_self _)
    (fun g u hg => by obtain ⟨k, rfl⟩ := due0_pos hg; exact Finset.mem_singleton_self _)
    (fun p hp => by rw [Finset.mem_singleton.mp hp]; exact (lv_bar c).le)
    (fun g u hg => by obtain ⟨k, rfl⟩ := due0_pos hg; exact (lv_recv _ _).symm ▸ (by decide : 1 < 2))

/-! ## The ghost state of the protocol -/

/-- The semaphores in use from launch on, -/
def barCells : Finset (GSem nD τ sig) := Finset.univ.map ⟨barCell, fun a b h => by simpa [barCell] using congrArg (fun g => g.1.1) h⟩

/-- the kernel's own six, in use from its entry on, -/
abbrev osem : Fin 6 → SemLoc sig
  | 0 => .dma (sendS 0) | 1 => .dma (sendS 1) | 2 => .dma (sendS 2)
  | 3 => .dma (recvS 0) | 4 => .dma (recvS 1) | 5 => .dma (recvS 2)

theorem osem_inj : Function.Injective osem := by decide

def scCells : Finset (GSem nD τ sig) :=
  (Finset.univ : Finset (Dev nD × Fin 6)).map ⟨fun x => ((x.1 : Thread nD τ), osem x.2), fun a b h => by
    have h1 : a.1 = b.1 := congrArg (fun g => g.1.1) h
    have h2 : osem a.2 = osem b.2 := congrArg (fun g => g.2) h
    exact Prod.ext h1 (osem_inj h2)⟩

theorem mem_bar (c : Dev nD) : barCell c ∈ barCells := Finset.mem_map.mpr ⟨c, Finset.mem_univ _, rfl⟩
theorem mem_own (c : Dev nD) (i : Fin 6) : ((c : Thread nD τ), osem i) ∈ scCells :=
  Finset.mem_map.mpr ⟨(c, i), Finset.mem_univ _, rfl⟩
theorem mem_send (c : Dev nD) (k : Fin 3) : sendCell c k ∈ scCells := by
  fin_cases k; exacts [mem_own c 0, mem_own c 1, mem_own c 2]
theorem mem_recv (c : Dev nD) (k : Fin 3) : recvCell c k ∈ scCells := by
  fin_cases k; exacts [mem_own c 3, mem_own c 4, mem_own c 5]

variable (K : GSem nD τ sig → ℕ)

/-- What every device knows: each semaphore follows the schedule, and every barrier semaphore is in use. -/
def recs : sProp 𝕄 :=
  iprop(bigSep (barCells ∪ scCells) (fun g => cellInv ER (sched m) (K g) g) ∗ bigSep barCells (fun g => reached ER g 0))

instance recs_persistent : BI.Persistent (recs (F := F) m K) := by unfold recs; infer_instance

theorem recs_inv {g : GSem nD τ sig} (h : g ∈ barCells ∪ scCells) : recs (F := F) m K ⊢ cellInv ER (sched m) (K g) g := by
  unfold recs
  exact (BI.Entails.trans BI.sep_and and_elimL).trans (bigSep_elim h)
theorem recs_bar (c : Dev nD) : recs (F := F) m K ⊢ cellInv ER (sched m) (K (barCell c)) (barCell c) :=
  recs_inv m K (Finset.mem_union_left _ (mem_bar c))
theorem recs_send (c : Dev nD) (k : Fin 3) : recs (F := F) m K ⊢ cellInv ER (sched m) (K (sendCell c k)) (sendCell c k) :=
  recs_inv m K (Finset.mem_union_right _ (mem_send c k))
theorem recs_recv (c : Dev nD) (k : Fin 3) : recs (F := F) m K ⊢ cellInv ER (sched m) (K (recvCell c k)) (recvCell c k) :=
  recs_inv m K (Finset.mem_union_right _ (mem_recv c k))
theorem recs_reached (c : Dev nD) : recs (F := F) m K ⊢ reached ER (barCell c) 0 := by
  unfold recs
  exact (BI.Entails.trans BI.sep_and and_elimR).trans (bigSep_elim (mem_bar c))

/-- The rights device `c` pays with towards peer `k`: its signal, its copy's arrival, its copy's end. -/
def toks (c : Dev nD) (k : Fin 3) : sProp 𝕄 :=
  iprop(dutyTok ER (barCell (peer k c)) 0 k ∗ dutyTok ER (recvCell (peer k c) (Fin.rev k)) 0 0 ∗ dutyTok ER (sendCell c k) 0 0)

/-- What device `c` has from launch on, -/
def ghost (c : Dev nD) : sProp 𝕄 :=
  iprop(recs m K ∗ atPos ER (barCell c) 0 ∅ 0 ∗ bigSep Finset.univ (fun i => openTok ER ((c : Thread nD τ), osem i))
    ∗ bigSep Finset.univ (toks (F := F) c))

/-- and what it has once those are in use. -/
def opened (c : Dev nD) : sProp 𝕄 :=
  iprop(recs m K ∗ atPos ER (barCell c) 0 ∅ 0
    ∗ bigSep Finset.univ (fun k => iprop(atPos ER (sendCell c k) 0 ∅ 0 ∗ reached ER (sendCell c k) 0))
    ∗ bigSep Finset.univ (fun k => iprop(atPos ER (recvCell c k) 0 ∅ 0 ∗ reached ER (recvCell c k) 0))
    ∗ bigSep Finset.univ (toks (F := F) c))

/-- The credit it waits with: its barrier's three units and the three arrivals. -/
def creds (c : Dev nD) : sProp 𝕄 :=
  iprop(cred (tallyAt (barCell c) () 3) ∗ bigSep Finset.univ (fun k => cred (tallyAt (recvCell c k) () N)))

end Proof01
-- ==== Proof.Steps.lean ====
/-
  The steps of the exchange, each stated once for a device `c` and a number `k`: the signal to peer `k`, the wait at the
  barrier, copy `k`, the wait for its end, the wait for the arrival in slot `k`, and the entry to and exit from a semaphore.
-/
module

public import proofs.«01_k».proof.Proof.Protocol

@[expose] public section

noncomputable section

namespace Proof01

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

abbrev 𝒱₀ : Variants := Variants.none

/-- A buffer of device `c`, whole. -/
abbrev pt (c : Dev nD) (b : Ref sig .tc) (f : Buf (Elt F) (((c : Dev nD) : Thread nD τ).loc b)) : sProp 𝕄 :=
  ((c : Thread nD τ).loc b) ↦{fullShare} f

/-! ## Splitting and joining the two scratch buffers -/

theorem statPts_full (c : Dev nD) : statPts m fullShare c = pt (F := F) c cc0_scratch0 (stat m c) := by
  unfold statPts; rw [View.set_whole]

theorem stat_halves (c : Dev nD) (q : PosShare TreeShare) :
    statPts m q c ⊣⊢ iprop(statPts (F := F) m q.left c ∗ statPts m q.right c) :=
  pointsTo_share (PosShare.mem_left_op_right q)

theorem stat_shares (c : Dev nD) :
    statPts m fullShare c ⊣⊢ iprop(statPts (F := F) m (sh 0) c ∗ statPts m (sh 1) c ∗ statPts m (sh 2) c) :=
  ⟨(stat_halves m c fullShare).1.trans (sep_mono_right (stat_halves m c fullShare.right).1),
    (sep_mono_right (stat_halves m c fullShare.right).2).trans (stat_halves m c fullShare).2⟩

theorem slotPts_eq (j : Fin 3) (c : Dev nD) (f : Buf (Elt F) ((slotM j).view.loc (c : Thread nD τ))) :
    slotPts j c f = (((c : Thread nD τ).loc cc0_scratch1) ↦[slotSet j]{fullShare} f : sProp 𝕄) := by
  unfold slotPts; rw [slot_set]

/-- The elements of slot `j`, as elements of the buffer on device `c`. -/
abbrev slotAt (c : Dev nD) (j : Fin 3) : Finset (Idx ((c : Thread nD τ).loc cc0_scratch1)) := slotSet j

theorem slotAt_disjoint (c : Dev nD) (j k : Fin 3) (h : j ≠ k) : Disjoint (slotAt c j) (slotAt c k) := slots_disjoint j k h
theorem slotAt_cover (c : Dev nD) : (Finset.univ : Finset (Fin 3)).biUnion (slotAt c) = Finset.univ :=
  Finset.eq_univ_iff_forall.mpr fun i =>
    have ⟨j, hj⟩ := slots_cover i
    Finset.mem_biUnion.mpr ⟨j, Finset.mem_univ _, hj⟩

theorem comm_split (c : Dev nD) (f : Buf (Elt F) ((c : Thread nD τ).loc cc0_scratch1)) :
    pt c cc0_scratch1 f ⊢ bigSep Finset.univ (fun j => slotPts (F := F) j c f) := by
  have h : pt c cc0_scratch1 f = (bigSep Finset.univ fun j => ((c : Thread nD τ).loc cc0_scratch1) ↦[slotAt c j]{fullShare} f : sProp 𝕄) :=
    Ring.pointsTo_blocks (slotAt c) (slotAt_disjoint c) (slotAt_cover c) f
  rw [h]
  exact Entails.of_eq (congrArg (bigSep Finset.univ) (funext fun j => (slotPts_eq j c f).symm))

theorem comm_join (c : Dev nD) (f₀ : Buf (Elt F) ((c : Thread nD τ).loc cc0_scratch1)) :
    bigSep Finset.univ (fun j => iprop(∃ f, slotPts (F := F) j c f)) ⊢ iprop(∃ g, pt (F := F) c cc0_scratch1 g) := by
  have h : bigSep Finset.univ (fun j => iprop(∃ f, ((c : Thread nD τ).loc cc0_scratch1) ↦[slotAt c j]{fullShare} f))
      ⊢ (iprop(∃ g, pt c cc0_scratch1 g) : sProp 𝕄) :=
    Ring.pointsTo_blocks_join_exists (slotAt c) (slotAt_disjoint c) (slotAt_cover c) f₀
  refine BI.Entails.trans (Entails.of_eq (congrArg (bigSep Finset.univ) (funext fun j => ?_))) h
  exact congrArg BIBase.exists (funext fun f => slotPts_eq j c f)

/-! ## Semaphores -/

/-- A semaphore of the kernel's own comes into use at the kernel's entry, -/
theorem open_cell (c : Dev nD) (i : Fin 6) :
    recs (F := F) m K ⊢ iprop(openTok ER ((c : Thread nD τ), osem i) -∗ semVal ((c : Thread nD τ), osem i) 0
      -∗ |={Set.univ}=> (atPos ER ((c : Thread nD τ), osem i) 0 ∅ 0 ∗ reached ER ((c : Thread nD τ), osem i) 0)) := by
  iintro HR Ht Hv
  iapply (Rounds.cell_open ER (sched m) (Set.mem_univ (K ((c : Thread nD τ), osem i)))) $$ [HR Ht Hv]
  isplitl [HR]
  · iapply (recs_inv m K (Finset.mem_union_right _ (mem_own c i))); iexact HR
  isplitl [Ht] <;> iassumption

/-- and a semaphore is closed, at zero, after its one round. -/
theorem close_cell {g : GSem nD τ sig} (hg : g ∈ barCells ∪ scCells) :
    recs (F := F) m K ⊢ iprop(atPos ER g (0 + 1) ∅ 0 -∗ |={Set.univ}=> semVal g 0) := by
  iintro HR Ha
  iapply (Rounds.cell_close ER (sched m) (Set.mem_univ (K g)) (fun h => h) (duties_later m g)) $$ [HR Ha]
  isplitl [HR]
  · iapply (recs_inv m K hg); iexact HR
  iexact Ha

/-! ## The steps -/

/-- Signal `k`: hands peer `k` the own slot `k`. -/
theorem step_signal (k : Fin 3) (c n : Dev nD) (hn : n = peer k c) (O : CellTallies nD τ sig Unit) (W : Waits sig Unit)
    {a : ℕ} (ha : a = 1) {α : Type} {Q : α → sProp 𝕄} {kont : PUnit → Prog (TpuEff nD τ sig (Elt F) Λ₀ .tc) α} :
    recs (F := F) m K ⊢ iprop(owes (c : Thread nD τ) (O + signalDue k c) W -∗ dutyTok ER (barCell (peer k c)) 0 k
      -∗ (∃ f, slotPts (F := F) k c f) -∗ reached ER (recvCell c k) 0
      -∗ (owes (c : Thread nD τ) O W -∗ wp frame (wpE (defs₀ (F := F)) 𝒱₀ (c : Thread nD τ) none) Set.univ (kont ⟨⟩) Q)
      -∗ wp frame (wpE (defs₀ (F := F)) 𝒱₀ (c : Thread nD τ) none) Set.univ
          (.op (.semSignal (Dev.tc n : Thread nD τ) barS a) kont) Q) := by
  subst hn; subst ha
  iintro #HR HO Ht Hs Hr Hk
  iapply (Rounds.wp_signal 𝒱₀ ER (sched m) (c : Thread nD τ) none (dst := (peer k c : Thread nD τ)) (κ := K (barCell (peer k c)))
      (d := k) (by rw [duties_bar]; exact Finset.mem_univ _) (amount_bar m (peer k c) k) () O rfl) $$ [HO Ht Hs Hr]
  · isplitr; · iapply (recs_bar m K (peer k c)); iexact HR
    isplitl [HO]; · iexact HO
    isplitl [Ht]; · iexact Ht
    isplitl [Hs Hr]
    · rw [payload_bar]; unfold barPay; rw [peer_rev]
      isplitl [Hs] <;> iassumption
    · iapply (recs_reached m K (peer k c)); iexact HR
  iexact Hk

/-- The wait at the barrier, with the three copies still owed: brings each peer's slot meant for this device. -/
theorem step_barrier (c : Dev nD) (W : Waits sig Unit) {a : ℕ} (ha : a = 3)
    {α : Type} {Q : α → sProp 𝕄} {kont : PUnit → Prog (TpuEff nD τ sig (Elt F) Λ₀ .tc) α} :
    recs (F := F) m K ⊢ iprop(cred (tallyAt (barCell c) () 3) -∗ owes (c : Thread nD τ) (due0 c) W -∗ levAts L lv
      -∗ atPos ER (barCell c) 0 ∅ 0
      -∗ ((owes (c : Thread nD τ) (due0 c) (insert (SemLoc.reg barS, ()) W) ∗ atPos ER (barCell c) (0 + 1) ∅ 0
            ∗ barPay (F := F) 0 c ∗ barPay 1 c ∗ barPay 2 c)
          -∗ wp frame (wpE (defs₀ (F := F)) 𝒱₀ (c : Thread nD τ) none) Set.univ (kont ⟨⟩) Q)
      -∗ wp frame (wpE (defs₀ (F := F)) 𝒱₀ (c : Thread nD τ) none) Set.univ (.op (.semWait barS a) kont) Q) := by
  subst ha
  iintro #HR Hc HO #Hlev Ha Hk
  iapply (Rounds.wp_wait_rest_token 𝒱₀ ER (sched m) (c : Thread nD τ) none (κ := K (barCell c))
      (wpE_semWait_eq 𝒱₀ (c : Thread nD τ) none Set.univ) (Set.mem_univ _) () (O := due0 c) (W := W) (R := 0) (m := 0) (T := ∅)
      (by rw [expect_bar])) $$ [Hc HO Ha]
  · isplitr; · iapply (recs_bar m K c); iexact HR
    isplitl [Hc]; · iexact Hc
    isplitl [HO]; · iexact HO
    isplitr; · iapply (mayWait_bar c); iexact Hlev
    iexact Ha
  iintro ⟨HO, Ha, -, Hp⟩
  ihave Hp := (Entails.of_eq ((rest_bar m c).trans (bigSep_three _))) $$ Hp
  iapply Hk
  isplitl [HO]; · iexact HO
  isplitl [Ha] <;> iassumption

/-- Copy `k`: into the peer's slot that its barrier unit handed over. -/
theorem step_copy (k : Fin 3) (c n : Dev nD) (hn : n = peer k c) (O : CellTallies nD τ sig Unit) (W : Waits sig Unit)
    {hsc : (slotM (Fin.rev k) : Memref sig (Dev.tc n : Thread nD τ).2.kind .vmem S2x1024 .f32).view.ref.isScScratch = false}
    {hsrc : (statM : Memref sig .tc .vmem S2x1024 .f32).view.WordExact} {hdst : (slotM (Fin.rev k)).view.WordExact}
    {hsem : DmaTarget.Typed .vmem (.dma (recvS (Fin.rev k))) (.remote (Dev.tc n : Thread nD τ) (slotM (Fin.rev k)) (.dma (sendS k)) hsc)}
    {α : Type} {Q : α → sProp 𝕄} {kont : PUnit → Prog (TpuEff nD τ sig (Elt F) Λ₀ .tc) α} :
    recs (F := F) m K ⊢ iprop(owes (c : Thread nD τ) (O + copyDue k c) W -∗ statPts m (sh k) c -∗ barPay (F := F) (Fin.rev k) c
      -∗ dutyTok ER (recvCell (peer k c) (Fin.rev k)) 0 0 -∗ dutyTok ER (sendCell c k) 0 0 -∗ reached ER (sendCell c k) 0
      -∗ ((cred (tallyAt (sendCell c k) () N) ∗ owes (c : Thread nD τ) O W)
          -∗ wp frame (wpE (defs₀ (F := F)) 𝒱₀ (c : Thread nD τ) none) Set.univ (kont ⟨⟩) Q)
      -∗ wp frame (wpE (defs₀ (F := F)) 𝒱₀ (c : Thread nD τ) none) Set.univ
          (.op (.enqueueDma statM (.remote (Dev.tc n : Thread nD τ) (slotM (Fin.rev k)) (.dma (sendS k)) hsc) (.dma (recvS (Fin.rev k))) hsrc hdst hsem) kont) Q) := by
  subst hn
  unfold barPay
  rw [Fin.rev_rev]
  iintro #HR HO Hsrc ⟨⟨%fd, Hd⟩, #Hrv⟩ Htr Hts #Hrs Hk
  unfold statPts slotPts
  iapply (Rounds.wp_send_pointsTo 𝒱₀ ER (sched m) (c : Thread nD τ) none (κ₁ := K (sendCell c k)) (κ₂ := K (recvCell (peer k c) (Fin.rev k)))
    (r₁ := 0) (r₂ := 0) (d₁ := (0 : Fin 3)) (d₂ := (0 : Fin 3)) (fd := fd)
    (by rw [duties_send]; exact Finset.mem_singleton_self _) (by rw [duties_recv]; exact Finset.mem_singleton_self _)
    () () N rfl (amount_send m c k 0) (amount_recv m (peer k c) (Fin.rev k) 0) O rfl (W := W)
    (by rw [payload_send]; unfold statPts; exact BI.Entails.refl _)
    (by
      rw [payload_recv]; unfold recvPay slotPts
      iintro H
      iexists _
      isplitl [H]; · iexact H
      ipureintro
      rw [View.read_write_univ, peer_rev]
      exact View.read_whole _ _)) $$ [Hsrc Hd HO Hts Htr]
  · isplitr; · iapply (recs_send m K c k); iexact HR
    isplitr; · iapply (recs_recv m K (peer k c) (Fin.rev k)); iexact HR
    isplitl [Hsrc]; · iexact Hsrc
    isplitl [Hd]; · iexact Hd
    isplitl [HO]; · iexact HO
    isplitl [Hts]; · iexact Hts
    isplitr; · iexact Hrs
    isplitl [Htr]; · iexact Htr
    iexact Hrv
  iexact Hk

/-- The wait for the end of copy `k`: brings its share of the statistics back. -/
theorem step_sent (k : Fin 3) (c : Dev nD) (W : Waits sig Unit) {sp' : Space} {s' : Shape} {e' : EltTy}
    {src : Memref sig (c : Thread nD τ).2.kind sp' s' e'} {hsrc : src.view.WordExact}
    {hdst : (statM : Memref sig .tc .vmem S2x1024 .f32).view.WordExact}
    {α : Type} {Q : α → sProp 𝕄} {kont : PUnit → Prog (TpuEff nD τ sig (Elt F) Λ₀ .tc) α} :
    recs (F := F) m K ⊢ iprop(cred (tallyAt (sendCell c k) () N) -∗ owes (c : Thread nD τ) 0 W -∗ atPos ER (sendCell c k) 0 ∅ 0
      -∗ ((owes (c : Thread nD τ) 0 (insert (SemLoc.dma (sendS k), ()) W) ∗ atPos ER (sendCell c k) (0 + 1) ∅ 0 ∗ statPts m (sh k) c)
          -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma2 (sendS k) src statM hsrc hdst) kont) Q) := by
  iintro #HR Hc HO Ha Hk
  iapply (Rounds.wp_wait_rest_token 𝒱₀ ER (sched m) (c : Thread nD τ) none (κ := K (sendCell c k))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iapply (recs_send m K c k); iexact HR
    isplitl [Hc]; · iexact Hc
    isplitl [HO]; · iexact HO
    isplitr; · rw [MayWait_zero]; iempintro
    iexact Ha
  iintro ⟨HO, Ha, -, Hp⟩
  ihave Hp := (Entails.of_eq (rest_send m c k)) $$ Hp
  iapply Hk
  isplitl [HO]; · iexact HO
  isplitl [Ha] <;> iassumption

/-- The wait for the arrival in slot `j`: brings the slot, which reads as the statistics of peer `j`. -/
theorem step_arrived (j : Fin 3) (c : Dev nD) (W : Waits sig Unit) {sp' : Space} {s' : Shape} {e' : EltTy}
    {src : Memref sig (c : Thread nD τ).2.kind sp' s' e'} {hsrc : src.view.WordExact} {hdst : (slotM j).view.WordExact}
    {α : Type} {Q : α → sProp 𝕄} {kont : PUnit → Prog (TpuEff nD τ sig (Elt F) Λ₀ .tc) α} :
    recs (F := F) m K ⊢ iprop(cred (tallyAt (recvCell c j) () N) -∗ owes (c : Thread nD τ) 0 W -∗ atPos ER (recvCell c j) 0 ∅ 0
      -∗ ((owes (c : Thread nD τ) 0 (insert (SemLoc.dma (recvS j), ()) W) ∗ atPos ER (recvCell c j) (0 + 1) ∅ 0 ∗ recvPay (F := F) m j c)
          -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma2 (recvS j) src (slotM j) hsrc hdst) kont) Q) := by
  iintro #HR Hc HO Ha Hk
  iapply (Rounds.wp_wait_rest_token 𝒱₀ ER (sched m) (c : Thread nD τ) none (κ := K (recvCell c j))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iapply (recs_recv m K c j); iexact HR
    isplitl [Hc]; · iexact Hc
    isplitl [HO]; · iexact HO
    isplitr; · rw [MayWait_zero]; iempintro
    iexact Ha
  iintro ⟨HO, Ha, -, Hp⟩
  ihave Hp := (Entails.of_eq (rest_recv m c j)) $$ Hp
  iapply Hk
  isplitl [HO]; · iexact HO
  isplitl [Ha] <;> iassumption

/-- A load of slot `j`: what it reads is the statistics of peer `j`. -/
theorem step_load_slot (j : Fin 3) (c : Dev nD) {α : Type} {Q : α → sProp 𝕄}
    {kont : (S1x2x1024.Idx → Elt F .f32) → Prog (TpuEff nD τ sig (Elt F) Λ₀ .tc) α} {hl} :
    recvPay (F := F) m j c ⊢ iprop(((∃ f, slotPts (F := F) j c f)
          -∗ wp frame (wpE (defs₀ (F := F)) 𝒱₀ (c : Thread nD τ) none) Set.univ (kont (asSlot (stat m (peer j c)))) Q)
      -∗ wp frame (wpE (defs₀ (F := F)) 𝒱₀ (c : Thread nD τ) none) Set.univ
          (.op (.load (commM : Memref sig .tc .vmem S3x2x1024 .f32) (slotRect j).toLoadRect hl) kont) Q) := by
  unfold recvPay
  iintro ⟨%f, Hs, %hf⟩ Hk
  ihave Hs := (Entails.of_eq (slotPts_eq j c f)) $$ Hs
  iapply (wp_load_rect 𝒱₀ (c : Thread nD τ) none Set.univ (m := commM) (r := slotRect j) (S := slotSet j)
    (by rw [show ((commM : Memref sig .tc .vmem S3x2x1024 .f32).access (slotRect j)).set = slotSet j from View.set_slice_whole _ _])) $$ Hs
  iintro Hs
  rw [read_access_slot, hf]
  iapply Hk
  iexists f
  ihave Hs := (Entails.of_eq (slotPts_eq j c f).symm) $$ Hs
  iexact Hs

end Proof01
-- ==== Proof.Body.lean ====
/-
  The body, run on a device `c` that stays a variable: from the blocks it is given to the normalised block it leaves.
-/
module

public import proofs.«01_k».proof.Proof.Steps

@[expose] public section

noncomputable section

namespace Proof01

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## What the body reads and leaves -/

/-- What device `c` leaves, of its own block and statistics and of what its three peers sent. -/
def outAt (c : Dev nD) : (cc0_stg3_0 : Ref sig .tc).ty.Contents (Elt F) :=
  k0_pay1 (k0_pay5 (k0_pay2 (xB m c)) (gB m c))
    (k0_pay8 (stat m c) (asSlot (stat m (peer 0 c))) (asSlot (stat m (peer 1 c))) (asSlot (stat m (peer 2 c))))
    (k0_pay9 (stat m c) (asSlot (stat m (peer 0 c))) (asSlot (stat m (peer 1 c))) (asSlot (stat m (peer 2 c))))
    (gB m c) (bB m c)

theorem zeros : (![0, 0] : Fin 2 → Nat) = fun _ => 0 := funext fun a => by fin_cases a <;> rfl

theorem read_x (f : (cc0_stg0_0 : Ref sig .tc).ty.Contents (Elt F)) :
    xM.view.readAt (Elt F) (Rect.unit (s := S1024x512) ![0, 0] S1024x512.size inb_S1024x512_S1024x512_0_0).toLoadRect f = f :=
  Memref.readAt_unit_zero (Elt F) cc0_stg0_0 zeros _ f
theorem read_g (f : (cc0_stg1_0 : Ref sig .tc).ty.Contents (Elt F)) :
    gM.view.readAt (Elt F) (Rect.unit (s := S1x512) ![0, 0] S1x512.size inb_S1x512_S1x512_0_0).toLoadRect f = f :=
  Memref.readAt_unit_zero (Elt F) cc0_stg1_0 zeros _ f
theorem read_b (f : (cc0_stg2_0 : Ref sig .tc).ty.Contents (Elt F)) :
    bM.view.readAt (Elt F) (Rect.unit (s := S1x512) ![0, 0] S1x512.size inb_S1x512_S1x512_0_0).toLoadRect f = f :=
  Memref.readAt_unit_zero (Elt F) cc0_stg2_0 zeros _ f
theorem read_stat (f : (cc0_scratch0 : Ref sig .tc).ty.Contents (Elt F)) :
    statM.view.readAt (Elt F) (Rect.unit (s := S2x1024) ![0, 0] S2x1024.size inb_S2x1024_S2x1024_0_0).toLoadRect f = f :=
  Memref.readAt_unit_zero (Elt F) cc0_scratch0 zeros _ f
theorem write_out (f w : (cc0_stg3_0 : Ref sig .tc).ty.Contents (Elt F)) :
    (oM.access (Rect.unit (s := S1024x512) ![0, 0] S1024x512.size inb_S1024x512_S1024x512_0_0) : View sig .tc _ _ _).write (Elt F) f w Finset.univ = w :=
  Memref.write_access_unit_zero_univ (Elt F) cc0_stg3_0 zeros _ f w

/-! ## The run -/

/-- What a run starts from, -/
def runPre (c : Dev nD) (W : Waits sig Unit) : sProp 𝕄 :=
  iprop(opened m K c ∗ creds c ∗ levAts L lv ∗ (∃ f, pt c cc0_scratch0 f) ∗ (∃ f, pt c cc0_scratch1 f)
    ∗ pt c cc0_stg0_0 (xB m c) ∗ pt c cc0_stg1_0 (gB m c) ∗ pt c cc0_stg2_0 (bB m c) ∗ (∃ f, pt c cc0_stg3_0 f)
    ∗ owes (c : Thread nD τ) (O₀ c) W)

/-- and what it leaves: every semaphore at zero, the scratch buffers at some contents, the result, nothing owed. -/
def runPost (c : Dev nD) : sProp 𝕄 :=
  iprop(semVal (barCell c) 0
    ∗ (semVal (sendCell c 0) 0 ∗ semVal (sendCell c 1) 0 ∗ semVal (sendCell c 2) 0
      ∗ semVal (recvCell c 0) 0 ∗ semVal (recvCell c 1) 0 ∗ semVal (recvCell c 2) 0)
    ∗ (∃ f, pt (F := F) c cc0_scratch0 f) ∗ (∃ f, pt (F := F) c cc0_scratch1 f)
    ∗ pt c cc0_stg0_0 (xB m c) ∗ pt c cc0_stg1_0 (gB m c) ∗ pt c cc0_stg2_0 (bB m c) ∗ pt c cc0_stg3_0 (outAt m c)
    ∗ ∃ W, owes (c : Thread nD τ) (0 : CellTallies nD τ sig Unit) W)

abbrev theBody : Prog (TpuEff nD τ sig (Elt F) Λ₀ .tc) PUnit :=
  cc0_body xM (Memref.isWhole_whole _) gM (Memref.isWhole_whole _) bM (Memref.isWhole_whole _) oM (Memref.isWhole_whole _)
    statM (Memref.isWhole_whole _) commM (Memref.isWhole_whole _) cc0_scratch2 cc0_scratch3

set_option maxHeartbeats 2000000 in
theorem run_body (c : Dev nD) (W : Waits sig Unit) (Kt : PUnit → sProp 𝕄) :
    iprop(runPre m K c W ∗ (runPost m c -∗ Kt ⟨⟩))
      ⊢ wp frame (wpE (defs₀ (F := F)) 𝒱₀ (c : Thread nD τ) none) Set.univ (theBody (F := F)) Kt := by
  unfold theBody
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold runPre opened creds
  simp only [bigSep_three, toks]
  iintro ⟨⟨⟨#HR, HaB, ⟨⟨HaS0, #HrS0⟩, ⟨HaS1, #HrS1⟩, ⟨HaS2, #HrS2⟩⟩, ⟨⟨HaV0, #HrV0⟩, ⟨HaV1, #HrV1⟩, ⟨HaV2, #HrV2⟩⟩,
    ⟨⟨HtB0, HtV0, HtS0⟩, ⟨HtB1, HtV1, HtS1⟩, ⟨HtB2, HtV2, HtS2⟩⟩⟩, ⟨HcB, HcV0, HcV1, HcV2⟩, #Hlev, ⟨%f0, Hst⟩, ⟨%f1, Hcm⟩, Hx, Hg, Hb, ⟨%f3, Ho⟩, HO⟩, Hk⟩
  ihave Hcm := ((comm_split c f1).trans (Entails.of_eq (bigSep_three _))) $$ Hcm
  icases Hcm with ⟨Hc0, Hc1, Hc2⟩
  unfold O₀
  iapply (step_signal m K 0 c _ (dev1_eq c) _ W (by decide)) $$ HR HO HtB0 [Hc0] HrV0
  · iexists f1; iexact Hc0
  iintro HO
  iapply (step_signal m K 1 c _ (dev2_eq c) _ W (by decide)) $$ HR HO HtB1 [Hc1] HrV1
  · iexists f1; iexact Hc1
  iintro HO
  iapply (step_signal m K 2 c _ (dev3_eq c) _ W (by decide)) $$ HR HO HtB2 [Hc2] HrV2
  · iexists f1; iexact Hc2
  iintro HO
  -- the statistics of the own block
  iapply (wp_load 𝒱₀ (c : Thread nD τ) none Set.univ (m := xM) (Finset.subset_univ _)) $$ Hx; iintro Hx
  rw [read_x]
  iapply (wp_load 𝒱₀ (c : Thread nD τ) none Set.univ (m := statM) (Finset.subset_univ _)) $$ Hst; iintro Hst
  iapply (wp_store 𝒱₀ (c : Thread nD τ) none Set.univ (m := statM) (r := row0) (Mk := Finset.univ) (Finset.subset_univ _)) $$ Hst; iintro Hst
  iapply (wp_load 𝒱₀ (c : Thread nD τ) none Set.univ (m := statM) (Finset.subset_univ _)) $$ Hst; iintro Hst
  iapply (wp_store 𝒱₀ (c : Thread nD τ) none Set.univ (m := statM) (r := row1) (Mk := Finset.univ) (Finset.subset_univ _)) $$ Hst; iintro Hst
  ihave Hst := (Entails.of_eq ((congrArg (pt (F := F) c cc0_scratch0) (stored_stats f0 (xB m c))).trans (statPts_full m c).symm)) $$ Hst
  ihave Hst := (stat_shares m c).1 $$ Hst
  icases Hst with ⟨Hq0, Hq1, Hq2⟩
  -- the barrier
  iapply (step_barrier m K c W (by decide)) $$ HR HcB HO Hlev HaB
  iintro ⟨HO, HaB, Hp0, Hp1, Hp2⟩
  unfold due0
  -- the three copies
  ihave Hp2 := (show barPay (F := F) 2 c ⊢ barPay (Fin.rev 0) c from .rfl) $$ Hp2
  ihave Hp1 := (show barPay (F := F) 1 c ⊢ barPay (Fin.rev 1) c from .rfl) $$ Hp1
  ihave Hp0 := (show barPay (F := F) 0 c ⊢ barPay (Fin.rev 2) c from .rfl) $$ Hp0
  iapply (step_copy m K 0 c _ (dev4_eq c) _ _) $$ HR HO Hq0 Hp2 HtV0 HtS0 HrS0
  iintro ⟨HcS0, HO⟩
  iapply (step_copy m K 1 c _ (dev5_eq c) _ _) $$ HR HO Hq1 Hp1 HtV1 HtS1 HrS1
  iintro ⟨HcS1, HO⟩
  iapply (step_copy m K 2 c _ (dev6_eq c) _ _) $$ HR HO Hq2 Hp0 HtV2 HtS2 HrS2
  iintro ⟨HcS2, HO⟩
  iapply (wp_load 𝒱₀ (c : Thread nD τ) none Set.univ (m := gM) (Finset.subset_univ _)) $$ Hg; iintro Hg
  rw [read_g]
  -- their ends
  iapply (step_sent m K 0 c _) $$ HR HcS0 HO HaS0
  iintro ⟨HO, HaS0, Hq0⟩
  iapply (step_sent m K 1 c _) $$ HR HcS1 HO HaS1
  iintro ⟨HO, HaS1, Hq1⟩
  iapply (step_sent m K 2 c _) $$ HR HcS2 HO HaS2
  iintro ⟨HO, HaS2, Hq2⟩
  ihave Hst := ((stat_shares m c).2.trans (Entails.of_eq (statPts_full m c))) $$ [Hq0 Hq1 Hq2]
  · isplitl [Hq0]; · iexact Hq0
    isplitl [Hq1] <;> iassumption
  -- the three arrivals
  iapply (step_arrived m K 0 c _) $$ HR HcV0 HO HaV0
  iintro ⟨HO, HaV0, Hc0⟩
  iapply (step_arrived m K 1 c _) $$ HR HcV1 HO HaV1
  iintro ⟨HO, HaV1, Hc1⟩
  iapply (step_arrived m K 2 c _) $$ HR HcV2 HO HaV2
  iintro ⟨HO, HaV2, Hc2⟩
  -- the totals, and the result
  iapply (wp_load 𝒱₀ (c : Thread nD τ) none Set.univ (m := statM) (Finset.subset_univ _)) $$ Hst; iintro Hst
  rw [read_stat]
  iapply (step_load_slot m 0 c) $$ Hc0; iintro Hc0
  iapply (step_load_slot m 1 c) $$ Hc1; iintro Hc1
  iapply (step_load_slot m 2 c) $$ Hc2; iintro Hc2
  iapply (wp_load 𝒱₀ (c : Thread nD τ) none Set.univ (m := gM) (Finset.subset_univ _)) $$ Hg; iintro Hg
  rw [read_g]
  iapply (wp_load 𝒱₀ (c : Thread nD τ) none Set.univ (m := bM) (Finset.subset_univ _)) $$ Hb; iintro Hb
  rw [read_b]
  iapply (wp_load 𝒱₀ (c : Thread nD τ) none Set.univ (m := oM) (Finset.subset_univ _)) $$ Ho; iintro Ho
  iapply (wp_store 𝒱₀ (c : Thread nD τ) none Set.univ (m := oM)
    (r := Rect.unit (s := S1024x512) ![0, 0] S1024x512.size inb_S1024x512_S1024x512_0_0) (Mk := Finset.univ) (Finset.subset_univ _)) $$ Ho; iintro Ho
  rw [write_out, wp_ret]
  -- every semaphore is closed at zero
  imod (close_cell m K (Finset.mem_union_left _ (mem_bar c))) $$ HR HaB with Hb0
  imod (close_cell m K (Finset.mem_union_right _ (mem_send c 0))) $$ HR HaS0 with HzS0
  imod (close_cell m K (Finset.mem_union_right _ (mem_send c 1))) $$ HR HaS1 with HzS1
  imod (close_cell m K (Finset.mem_union_right _ (mem_send c 2))) $$ HR HaS2 with HzS2
  imod (close_cell m K (Finset.mem_union_right _ (mem_recv c 0))) $$ HR HaV0 with HzV0
  imod (close_cell m K (Finset.mem_union_right _ (mem_recv c 1))) $$ HR HaV1 with HzV1
  imod (close_cell m K (Finset.mem_union_right _ (mem_recv c 2))) $$ HR HaV2 with HzV2
  imodintro
  iapply Hk
  unfold runPost
  isplitl [Hb0]; · iexact Hb0
  isplitl [HzS0 HzS1 HzS2 HzV0 HzV1 HzV2]
  · isplitl [HzS0]; · iexact HzS0
    isplitl [HzS1]; · iexact HzS1
    isplitl [HzS2]; · iexact HzS2
    isplitl [HzV0]; · iexact HzV0
    isplitl [HzV1] <;> iassumption
  isplitl [Hst]; · iexists _; iexact Hst
  isplitl [Hc0 Hc1 Hc2]
  · iapply ((Entails.of_eq (bigSep_three _).symm).trans (comm_join c f1))
    isplitl [Hc0]; · iexact Hc0
    isplitl [Hc1] <;> iassumption
  isplitl [Hx]; · iexact Hx
  isplitl [Hg]; · iexact Hg
  isplitl [Hb]; · iexact Hb
  isplitl [Ho]; · iexact Ho
  iexists _; iexact HO

end Proof01
-- ==== Proof.Region.lean ====
/-
  The kernel as a region of the program: the contents it finds and leaves, its body's obligation, and the record of entering and
  leaving it.
-/
module

public import proofs.«01_k».proof.Proof.Body
public import Idealize.ShloMosaic.Lib.Pipeline.ValueKit

@[expose] public section

noncomputable section

namespace Proof01

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The proof data of the region -/

/-- The buffers of device `c` once the two reshapes before the kernel are done. -/
abbrev atEntry (c : Dev nD) : Valuation τ sig (Elt F) := StableHlo.after hostOps0 (fun b => m (c, b))

def scratchAny (c : Dev nD) : sProp 𝕄 := iprop((∃ f, pt (F := F) c cc0_scratch0 f) ∗ (∃ f, pt (F := F) c cc0_scratch1 f))

/-- What the kernel's entry adds to the launch's ghost state is only that its own semaphores are in use. -/
def X₀ (c : Dev nD) : sProp 𝕄 := iprop((∃ K, opened m K c) ∗ creds c ∗ levAts L lv)

def sixZero (c : Dev nD) : sProp 𝕄 :=
  iprop(semVal (sendCell c 0) 0 ∗ semVal (sendCell c 1) 0 ∗ semVal (sendCell c 2) 0
      ∗ semVal (recvCell c 0) 0 ∗ semVal (recvCell c 1) 0 ∗ semVal (recvCell c 2) 0)

def dat (c : Dev nD) : Dat τ (Elt F) Unit ℕ UU ℕ cfg0 c where
  A w := atEntry m c (Proc.devRef .tc (Pipeline.arrRef spec0 w))
  after w _ := match w with
    | ⟨0, _⟩ => xB m c
    | ⟨1, _⟩ => gB m c
    | ⟨2, _⟩ => bB m c
    | ⟨3, _⟩ => outAt m c
  Φ t := if t.val = 0 then iprop(X₀ m c ∗ scratchAny c ∗ ∃ r, prngReg c r)
    else iprop(semVal (barCell c) 0 ∗ sixZero c ∗ scratchAny c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat m c).owed (t0_0 : Fin cfg0.N).castSucc = O₀ c := by
  show (if (t0_0 : Fin cfg0.N).castSucc.val = 0 then O₀ c else 0) = O₀ c; exact if_pos rfl
theorem owed_zero (c : Dev nD) : (pdats (F := F) m 0 c).owed 0 = O₀ c := by
  show (if (0 : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]
theorem owed_succ (c : Dev nD) : (dat (F := F) m c).owed (t0_0 : Fin cfg0.N).succ = 0 := by
  show (if (t0_0 : Fin cfg0.N).succ.val = 0 then O₀ c else 0) = 0; exact if_neg (Nat.succ_ne_zero _)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt c b f) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ pt c b f)

/-- An input's staging buffer holds its block when the body starts. -/
theorem before_x (c : Dev nD) (d) : (dat m c).before (0 : Fin 4) t0_0 d = xB m c := by
  unfold Dat.before; rw [if_pos (by rfl)]; rfl
theorem before_g (c : Dev nD) (d) : (dat m c).before (1 : Fin 4) t0_0 d = gB m c := by
  unfold Dat.before; rw [if_pos (by rfl)]; rfl
theorem before_b (c : Dev nD) (d) : (dat m c).before (2 : Fin 4) t0_0 d = bB m c := by
  unfold Dat.before; rw [if_pos (by rfl)]; rfl

def bodyPre (c : Dev nD) : sProp 𝕄 :=
  iprop((X₀ m c ∗ scratchAny c ∗ ∃ r, prngReg c r) ∗ (dat m c).owesAt () (t0_0 : Fin cfg0.N).castSucc
    ∗ (∃ d, stg c cc0_stg0_0 ((dat m c).before (0 : Fin 4) t0_0 d))
    ∗ (∃ d, stg c cc0_stg1_0 ((dat m c).before (1 : Fin 4) t0_0 d))
    ∗ (∃ d, stg c cc0_stg2_0 ((dat m c).before (2 : Fin 4) t0_0 d))
    ∗ (∃ d, stg c cc0_stg3_0 ((dat m c).before (3 : Fin 4) t0_0 d)))

def bodyPost (c : Dev nD) : sProp 𝕄 :=
  iprop((semVal (barCell c) 0 ∗ sixZero c ∗ scratchAny c ∗ ∃ r, prngReg c r) ∗ (dat m c).owesAt () (t0_0 : Fin cfg0.N).succ
    ∗ stg c cc0_stg0_0 (xB m c) ∗ stg c cc0_stg1_0 (gB m c) ∗ stg c cc0_stg2_0 (bB m c) ∗ stg c cc0_stg3_0 (outAt m c))

theorem body_run (c : Dev nD) :
    bodyPre m c ⊢ wp frame (wpE (defs₀ (F := F)) 𝒱₀ (c : Thread nD τ) none) Set.univ (theBody (F := F)) (fun _ => bodyPost m c) := by
  unfold bodyPre X₀ scratchAny
  iintro ⟨⟨⟨⟨%K, Hg⟩, Hcr, Hlev⟩, ⟨Hst, Hcm⟩, Hreg⟩, HO, ⟨%d0, %g0, %h0, Hx⟩, ⟨%d1, %g1, %h1, Hg1⟩, ⟨%d2, %g2, %h2, Hb⟩, ⟨%d3, %g3, %h3, Ho⟩⟩
  rw [before_x] at h0; rw [before_g] at h1; rw [before_b] at h2
  subst h0; subst h1; subst h2
  unfold Dat.owesAt Pipeline.owesWithin
  rw [owed_first]
  icases HO with ⟨%W, -, HO⟩
  iapply (run_body m K c W _)
  isplitl [Hg Hcr Hlev Hst Hcm Hx Hg1 Hb Ho HO]
  · unfold runPre
    isplitl [Hg]; · iexact Hg
    isplitl [Hcr]; · iexact Hcr
    isplitl [Hlev]; · iexact Hlev
    isplitl [Hst]; · iexact Hst
    isplitl [Hcm]; · iexact Hcm
    isplitl [Hx]; · iexact Hx
    isplitl [Hg1]; · iexact Hg1
    isplitl [Hb]; · iexact Hb
    isplitl [Ho]; · iexists g3; iexact Ho
    iexact HO
  unfold runPost
  iintro ⟨Hb0, Hz, Hst, Hcm, Hx, Hg1, Hb, Ho, ⟨%W', HO⟩⟩
  unfold bodyPost sixZero scratchAny Dat.owesAt Pipeline.owesWithin
  rw [owed_succ]
  isplitl [Hb0 Hz Hst Hcm Hreg]
  · isplitl [Hb0]; · iexact Hb0
    isplitl [Hz]; · iexact Hz
    isplitl [Hst Hcm]
    · isplitl [Hst] <;> iassumption
    iexact Hreg
  isplitl [HO]
  · iexists W'
    isplitr; · ipureintro; exact fun _ _ => Or.inl trivial
    iexact HO
  isplitl [Hx]
  · iexists _; isplitr; · (ipureintro; rfl)
    iexact Hx
  isplitl [Hg1]
  · iexists _; isplitr; · (ipureintro; rfl)
    iexact Hg1
  isplitl [Hb]
  · iexists _; isplitr; · (ipureintro; rfl)
    iexact Hb
  iexists _; isplitr; · (ipureintro; rfl)
  iexact Ho

set_option maxRecDepth 4000 in
theorem body_obligation (c : Dev nD) : BodyObligation (dat (F := F) m c) (defs₀ (F := F)) 𝒱₀ () Set.univ := fun t => by
  obtain rfl := fin_N0 t
  rw [bigSep_W0, bigSep_W0]
  simp only [owns_whole_eq]
  show bodyPre m c ⊢ wp frame (wpE (defs₀ (F := F)) 𝒱₀ (c : Thread nD τ) none) Set.univ (theBody (F := F)) (fun _ => bodyPost m c)
  exact body_run m c

/-! ## Entering and leaving -/

def bufs : Finset (DevRef τ sig) := (StableHlo.tcRefs τ sig).filter fun b => ¬ b.isScoped

abbrev arrs : Finset (DevRef τ sig) := Pipeline.arrRefs (τ := τ) (pcfgs (F := F) 0).spec
/-- The buffers beside the kernel's arrays: the two arguments the reshapes read. -/
abbrev others : Finset (DevRef τ sig) := bufs \ arrs (F := F)

theorem arrs_sub : arrs (F := F) ⊆ bufs := by
  show Pipeline.arrRefs (τ := τ) spec0 ⊆ bufs; decide

/-- The result array after the region. -/
abbrev outArr (c : Dev nD) : Buf (Elt F) ((c : Thread nD τ).loc main_v3) := (dat m c).arrAt (3 : Fin 4) cfg0.N

/-- The buffers of device `c` after the kernel. -/
abbrev atExit (c : Dev nD) : Valuation τ sig (Elt F) := Function.update (atEntry m c) (Proc.devRef .tc main_v3) (outArr m c)

theorem arrs_entry (c : Dev nD) (w : Fin 4) :
    (pdats m 0 c).arrAt w 0 = atEntry m c (Proc.devRef .tc (Pipeline.arrRef (Pipeline.pin (pcfgs (F := F)) adm 0).spec w)) := rfl

theorem arrs_exit (c : Dev nD) : ∀ w : Fin 4, (pdats m 0 c).arrAt w (Pipeline.pin (pcfgs (F := F)) adm 0).N
    = atExit m c (Proc.devRef .tc (Pipeline.arrRef (Pipeline.pin (pcfgs (F := F)) adm 0).spec w))
  | ⟨0, _⟩ => ((dat m c).arrAt_in (0 : Fin 4) rfl _).trans
      (Function.update_of_ne (show (Proc.devRef .tc main_arg0 : DevRef τ sig) ≠ Proc.devRef .tc main_v3 by decide) (outArr m c) (atEntry m c)).symm
  | ⟨1, _⟩ => ((dat m c).arrAt_in (1 : Fin 4) rfl _).trans
      (Function.update_of_ne (show (Proc.devRef .tc main_v1 : DevRef τ sig) ≠ Proc.devRef .tc main_v3 by decide) (outArr m c) (atEntry m c)).symm
  | ⟨2, _⟩ => ((dat m c).arrAt_in (2 : Fin 4) rfl _).trans
      (Function.update_of_ne (show (Proc.devRef .tc main_v2 : DevRef τ sig) ≠ Proc.devRef .tc main_v3 by decide) (outArr m c) (atEntry m c)).symm
  | ⟨3, _⟩ => (Function.update_self (Proc.devRef .tc main_v3) (outArr m c) (atEntry m c)).symm

theorem others_kept (c : Dev nD) : ∀ b ∈ others (F := F) \ ∅, atExit m c b = atEntry m c b := fun b hb =>
  Function.update_of_ne (fun h => (Finset.mem_sdiff.mp (Finset.mem_sdiff.mp hb).1).2 (by
    rw [h]; show Proc.devRef .tc main_v3 ∈ Pipeline.arrRefs (τ := τ) spec0; decide)) _ _

theorem ownSems_eq (c : Dev nD) : (Pipeline.ownSems0 (Ix := Unit) (Name := ℕ) (U := UU) (Lvl := ℕ) (Val := Elt F) (τ := τ) osem c : sProp 𝕄) = sixZero c := by
  rw [Pipeline.ownSems0_eq_of_list c osem [0, 1, 2, 3, 4, 5] (by decide) (by decide)]; rfl

/-- What the launch keeps for the kernel. -/
def T (c : Dev nD) : sProp 𝕄 := iprop((∃ K, ghost m K c) ∗ creds c)

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem opened_eq (K : GSem nD τ sig → ℕ) (c : Dev nD) : opened (F := F) m K c
    = iprop(recs m K ∗ atPos ER (barCell c) 0 ∅ 0
      ∗ ((atPos ER (sendCell c 0) 0 ∅ 0 ∗ reached ER (sendCell c 0) 0) ∗ (atPos ER (sendCell c 1) 0 ∅ 0 ∗ reached ER (sendCell c 1) 0)
        ∗ (atPos ER (sendCell c 2) 0 ∅ 0 ∗ reached ER (sendCell c 2) 0))
      ∗ ((atPos ER (recvCell c 0) 0 ∅ 0 ∗ reached ER (recvCell c 0) 0) ∗ (atPos ER (recvCell c 1) 0 ∅ 0 ∗ reached ER (recvCell c 1) 0)
        ∗ (atPos ER (recvCell c 2) 0 ∅ 0 ∗ reached ER (recvCell c 2) 0))
      ∗ bigSep Finset.univ (toks (F := F) c)) := by
  unfold opened
  rw [bigSep_three (fun k => iprop(atPos ER (sendCell c k) 0 ∅ 0 ∗ reached ER (sendCell c k) 0)),
    bigSep_three (fun k => iprop(atPos ER (recvCell c k) 0 ∅ 0 ∗ reached ER (recvCell c k) 0))]

/-- The kernel's own semaphores come into use at its entry. -/
theorem enter (c : Dev nD) : iprop(T m c ∗ Pipeline.ownSems0 osem c ∗ levAts L lv) ⊢ (|={Set.univ}=> X₀ m c : sProp 𝕄) := by
  rw [ownSems_eq]
  unfold T X₀ ghost sixZero
  rw [bigSep_six]
  iintro ⟨⟨⟨%K, #HR, HaB, ⟨Ho0, Ho1, Ho2, Ho3, Ho4, Ho5⟩, Ht⟩, Hcr⟩, ⟨Hz0, Hz1, Hz2, Hz3, Hz4, Hz5⟩, #Hlev⟩
  imod (open_cell m K c 0) $$ HR Ho0 Hz0 with ⟨Ha0, #Hr0⟩
  imod (open_cell m K c 1) $$ HR Ho1 Hz1 with ⟨Ha1, #Hr1⟩
  imod (open_cell m K c 2) $$ HR Ho2 Hz2 with ⟨Ha2, #Hr2⟩
  imod (open_cell m K c 3) $$ HR Ho3 Hz3 with ⟨Ha3, #Hr3⟩
  imod (open_cell m K c 4) $$ HR Ho4 Hz4 with ⟨Ha4, #Hr4⟩
  imod (open_cell m K c 5) $$ HR Ho5 Hz5 with ⟨Ha5, #Hr5⟩
  imodintro
  isplitr [Hcr]
  · iexists K
    rw [opened_eq]
    isplitr; · iexact HR
    isplitl [HaB]; · iexact HaB
    isplitl [Ha0 Ha1 Ha2]
    · isplitl [Ha0]; · isplitl [Ha0]; · iexact Ha0
                       iexact Hr0
      isplitl [Ha1]; · isplitl [Ha1]; · iexact Ha1
                       iexact Hr1
      isplitl [Ha2]; · iexact Ha2
      iexact Hr2
    isplitl [Ha3 Ha4 Ha5]
    · isplitl [Ha3]; · isplitl [Ha3]; · iexact Ha3
                       iexact Hr3
      isplitl [Ha4]; · isplitl [Ha4]; · iexact Ha4
                       iexact Hr4
      isplitl [Ha5]; · iexact Ha5
      iexact Hr5
    iexact Ht
  isplitl [Hcr]; · iexact Hcr
  iexact Hlev

theorem held_none (c : Dev nD) (W : Valuation τ sig (Elt F)) : (StableHlo.held (c.tc : Thread nD τ) ∅ W : sProp 𝕄) = BI.emp := by
  unfold StableHlo.held; exact BI.bigSep_empty

theorem scratch_eq (c : Dev nD) : (Pipeline.scopedRest (Ix := Unit) (Name := ℕ) (U := UU) (Lvl := ℕ) (Val := Elt F)
    (Pipeline.pin (pcfgs (F := F)) adm 0).spec c : sProp 𝕄) = scratchAny c := scopedRest0_eq c

theorem into (c : Dev nD) : iprop(Pipeline.scopedRest (Pipeline.pin (pcfgs (F := F)) adm 0).spec c ∗ (∃ r, prngReg c r)
    ∗ StableHlo.held (c.tc : Thread nD τ) ∅ (atEntry m c) ∗ X₀ m c) ⊢ (pdats m 0 c).Φ 0 := by
  rw [show (pdats m 0 c).Φ 0 = iprop(X₀ m c ∗ scratchAny c ∗ ∃ r, prngReg c r) from rfl, scratch_eq]
  iintro ⟨Hs, Hp, -, HX⟩
  isplitl [HX]; · iexact HX
  isplitl [Hs] <;> iassumption

theorem out_of (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (atExit m c) ∗ Pipeline.ownSems0 osem c ∗ semVal (barCell c) 0) := by
  rw [show (pdats m 0 c).Φ (Fin.last _) = iprop(semVal (barCell c) 0 ∗ sixZero c ∗ scratchAny c ∗ ∃ r, prngReg c r) from rfl,
    scratch_eq, ownSems_eq, held_none]
  iintro ⟨Hb, Hz, Hs, Hp⟩
  isplitl [Hs]; · iexact Hs
  isplitl [Hp]; · iexact Hp
  isplitr; · iempintro
  isplitl [Hz] <;> iassumption

theorem owed_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨k, rfl⟩ | ⟨k, rfl⟩
    · exact ⟨Finset.mem_singleton_self _, (lv_recv _ _).symm ▸ (by decide : 0 < 2)⟩
    · exact ⟨Finset.mem_singleton_self _, (lv_bar _).symm ▸ (by decide : 0 < 1)⟩
  · exact absurd h (Nat.lt_irrefl 0)

theorem staged_low (w : Fin 4) (s : Fin (spec0 w).nbuf) : levelOf (role (.dma ((spec0 w).sem s))) = 0 := by revert w s; decide

theorem shares (c : Dev nD) (w : Fin 4) : (pdats (F := F) m 0 c).share w = fullShare := by unfold Dat.share; split <;> rfl

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (others (F := F)) (Finset.empty_subset _) launch0.toP rfl (fun c => (body_obligation m c).loose)
    (fun _ => 0) O₀ (fun c => (owed_zero m c).trans (zero_add _).symm) (owed_last m) (fun _ => rfl) (shares m)
    (atEntry m) (atExit m) (others_kept m)
    (T m) (fun c => semVal (barCell c) 0) (X₀ m) (fun c => semVal (barCell c) 0) (enter m) (into m) (out_of m)
    (fun c => by iintro H; imodintro; iexact H)
    (fun _ => 0)
    ⟨fun c w s => by rw [L_tc]; exact Finset.mem_singleton_self _, fun c w s => (staged_low w s).le, owed_cut m⟩
    (fun _ => iprop(emp))
    (arrs_entry m) (arrs_exit m)

/-- What rides beside the buffers up to the kernel. -/
def R (c : Dev nD) : sProp 𝕄 := iprop((T m c ∗ ∃ r, prngReg c r) ∗ ∃ W, owes (c : Thread nD τ) (O₀ c) W)

theorem reg_pre (c : Dev nD) : iprop(StableHlo.held (c : Thread nD τ) bufs (atEntry m c) ∗ R m c) ⊢ (reg m).pre c := by
  show _ ⊢ iprop(StableHlo.held (c.tc : Thread nD τ) (arrs (F := F)) (atEntry m c) ∗ (∃ r, prngReg c r)
    ∗ (StableHlo.held (c.tc : Thread nD τ) (others (F := F)) (atEntry m c) ∗ emp) ∗ T m c ∗ ∃ Wd, owes (c : Thread nD τ) (0 + O₀ c) Wd)
  rw [StableHlo.held_sub_split (c.tc : Thread nD τ) (arrs_sub (F := F)) (atEntry m c), zero_add]
  unfold R
  iintro ⟨⟨Ha, Ho⟩, ⟨HT, Hp⟩, HO⟩
  isplitl [Ha]; · iexact Ha
  isplitl [Hp]; · iexact Hp
  isplitl [Ho]
  · isplitl [Ho]; · iexact Ho
    iempintro
  isplitl [HT] <;> iassumption

theorem reg_post (c : Dev nD) : (reg m).post c
    ⊢ iprop((StableHlo.held (c : Thread nD τ) bufs (atExit m c) ∗ semVal (barCell c) 0) ∗ ∃ W, owes (c : Thread nD τ) (0 : CellTallies nD τ sig Unit) W) := by
  show iprop(StableHlo.held (c.tc : Thread nD τ) (arrs (F := F)) (atExit m c) ∗ (∃ r, prngReg c r)
    ∗ (StableHlo.held (c.tc : Thread nD τ) (others (F := F)) (atExit m c) ∗ emp) ∗ semVal (barCell c) 0
    ∗ ∃ Wd, owes (c : Thread nD τ) (0 : CellTallies nD τ sig Unit) Wd) ⊢ _
  rw [StableHlo.held_sub_split (c.tc : Thread nD τ) (arrs_sub (F := F)) (atExit m c)]
  iintro ⟨Ha, -, ⟨Ho, -⟩, Hb, HO⟩
  isplitr [HO]
  · isplitr [Hb]
    · isplitl [Ha] <;> iassumption
    iexact Hb
  iexact HO

/-! ## The result array is what the body left -/

theorem outArr_eq (c : Dev nD) : outArr m c = outAt m c := by
  refine (dat m c).arrAt_eq_of_covers (3 : Fin 4) (outAt m c) (by decide +kernel) fun t hf y => ?_
  obtain rfl := fin_N0 t
  have ha : (dat m c).after (3 : Fin 4) t0_0 = outAt m c := by dsimp only [dat]
  rw [ha]
  have e : win0_3.index t0_0 = ![0, 0] := by decide +kernel
  blk_simp
  congr 1
  blk_ext [e]

end Proof01
-- ==== Proof.Launch.lean ====
/-
  The launch: how the ghost state, the rights to pay and the credit to wait with are dealt to the devices, and the run of the
  whole program from any memory.
-/
module

public import proofs.«01_k».proof.Proof.Region

@[expose] public section

noncomputable section

namespace Proof01

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The program in two segments -/

theorem ops_inside : ∀ op ∈ (hostOps0 : List (HloOp τ sig (Elt F))), op.bufs ⊆ bufs :=
  List.forall_iff_forall_mem.mp (by
    refine ⟨?_, ?_⟩
    · show ({Proc.devRef .tc main_arg1, Proc.devRef .tc main_v1} : Finset (DevRef τ sig)) ⊆ bufs; decide
    · show ({Proc.devRef .tc main_arg2, Proc.devRef .tc main_v2} : Finset (DevRef τ sig)) ⊆ bufs; decide)

def prelude : Pipeline.HostSeg (Ix := Unit) (Name := ℕ) (U := UU) (pcfgs (F := F)) defs₀ 𝒱₀ L lv :=
  Pipeline.HostSeg.ofOps _ _ _ _ _ bufs hostOps0 ops_inside (List.forall_iff_forall_mem.mp hostOps0_fresh) (fun c b => m (c, b)) (R m)

def segs : List (Pipeline.Seg (pcfgs (F := F)) adm (pdats m) () defs₀ 𝒱₀ L lv) := [.host (prelude m), .region (reg m)]

theorem main_eq (c : Dev nD) : main (F := F) c = Pipeline.Seg.run (segs m) :=
  main_segs adm (pdats m) () 𝒱₀ L lv (prelude m) (reg m) rfl c

/-! ## What a device has at launch -/

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sems (c : Dev nD) : (unscopedSems0 c : sProp 𝕄) = semVal (barCell c) 0 := by
  unfold unscopedSems0; rw [bigSep_eq_bigSepL_of_eq [SemLoc.reg barS] (by decide) (by decide)]; rfl

theorem only_barrier : ∀ sm : SemLoc sig, sm.isScoped .tc = false → sm = .reg barS := by decide

theorem barrier_apart : Disjoint barCells scCells := by
  rw [Finset.disjoint_left]
  rintro g h₁ h₂
  obtain ⟨c, -, rfl⟩ := Finset.mem_map.mp h₁
  obtain ⟨x, -, h⟩ := Finset.mem_map.mp h₂
  exact (by decide : ∀ i : Fin 6, osem i ≠ .reg barS) x.2 (congrArg Prod.snd h)

/-! ## The rights to pay -/

/-- The three duties numbered `k` on a device's own semaphores: its barrier, its arrival in slot `k`, the end of its copy `k`. -/
def duty (k j : Fin 3) : SemLoc sig × Fin 3 := match j with
  | 0 => (.reg barS, k) | 1 => (.dma (recvS k), 0) | 2 => (.dma (sendS k), 0)

theorem duty_inj : Function.Injective fun x : Fin 3 × Fin 3 => duty x.1 x.2 := by decide

def rights : Finset (GSem nD τ sig × ℕ × Fin 3) :=
  (Finset.univ : Finset ((Dev nD × Fin 3) × Fin 3)).map ⟨fun x => (((x.1.1 : Thread nD τ), (duty x.1.2 x.2).1), 0, (duty x.1.2 x.2).2), fun a b h => by
    have h1 : a.1.1 = b.1.1 := congrArg (fun t : GSem nD τ sig × ℕ × Fin 3 => t.1.1.1) h
    have h2 : (duty a.1.2 a.2).1 = (duty b.1.2 b.2).1 := congrArg (fun t : GSem nD τ sig × ℕ × Fin 3 => t.1.2) h
    have h3 : (duty a.1.2 a.2).2 = (duty b.1.2 b.2).2 := congrArg (fun t : GSem nD τ sig × ℕ × Fin 3 => t.2.2) h
    have h4 : ((a.1.2, a.2) : Fin 3 × Fin 3) = (b.1.2, b.2) := duty_inj (Prod.ext h2 h3)
    exact Prod.ext (Prod.ext h1 (Prod.mk.inj h4).1) (Prod.mk.inj h4).2⟩

/-- Each device's duty to each peer, by the device that pays. -/
def toPeer : Dev nD × Fin 3 ≃ Dev nD × Fin 3 :=
  ⟨fun x => (peer x.2 x.1, x.2), fun x => (peer (Fin.rev x.2) x.1, x.2), fun x => Prod.ext (peer_rev x.2 x.1) rfl, fun x => Prod.ext (peer_rev' x.2 x.1) rfl⟩
/-- The same with the slot the copy goes to. -/
def toSlot : Dev nD × Fin 3 ≃ Dev nD × Fin 3 :=
  ⟨fun x => (peer x.2 x.1, Fin.rev x.2), fun x => (peer x.2 x.1, Fin.rev x.2), fun x => Prod.ext (peer_rev x.2 x.1) (Fin.rev_rev x.2),
    fun x => Prod.ext (peer_rev x.2 x.1) (Fin.rev_rev x.2)⟩

theorem rights_dealt : bigSep rights (fun x => (dutyTok ER x.1 x.2.1 x.2.2 : sProp 𝕄))
    = bigSep Finset.univ fun c : Dev nD => bigSep Finset.univ (toks (F := F) c) := by
  have h1 : bigSep rights (fun x => (dutyTok ER x.1 x.2.1 x.2.2 : sProp 𝕄))
      = bigSep Finset.univ fun x : Dev nD × Fin 3 => iprop(dutyTok ER (barCell x.1) 0 x.2 ∗ dutyTok ER (recvCell x.1 x.2) 0 0 ∗ dutyTok ER (sendCell x.1 x.2) 0 0) := by
    unfold rights; rw [bigSep_map, bigSep_univ_prod]
    exact bigSep_congr fun x _ => by rw [bigSep_three]; rfl
  rw [h1, bigSep_sep', bigSep_sep', bigSep_univ_equiv toPeer (fun x : Dev nD × Fin 3 => (dutyTok ER (barCell x.1) 0 x.2 : sProp 𝕄)),
    bigSep_univ_equiv toSlot (fun x : Dev nD × Fin 3 => (dutyTok ER (recvCell x.1 x.2) 0 0 : sProp 𝕄)), ← bigSep_sep', ← bigSep_sep', bigSep_univ_prod]
  rfl

/-! ## The credit -/

theorem cred_sum (A B : CellTallies nD τ sig Unit) : (cred (A + B) : sProp 𝕄) = iprop(cred A ∗ cred B) :=
  BI.Entails.antisymm (cred_add _ _).1 (cred_add _ _).2

theorem signal_credit (k : Fin 3) (c : Dev nD) : (Pipeline.launchCred (signalDue k) c : sProp 𝕄) ⊢ cred (tallyAt (barCell c) () 1) :=
  Pipeline.launchCred_tallyAt (.reg barS) (peer k) (peer (Fin.rev k)) (peer_rev' k) (peer_rev k) () 1 c
theorem copy_credit (k : Fin 3) (c : Dev nD) : (Pipeline.launchCred (copyDue k) c : sProp 𝕄) ⊢ cred (tallyAt (recvCell c (Fin.rev k)) () N) :=
  Pipeline.launchCred_tallyAt (.dma (recvS (Fin.rev k))) (peer k) (peer (Fin.rev k)) (peer_rev' k) (peer_rev k) () N c

theorem launch_split (c : Dev nD) : (Pipeline.launchCred O₀ c : sProp 𝕄)
    = iprop((((((Pipeline.launchCred (fun _ => 0) c ∗ Pipeline.launchCred (copyDue 2) c) ∗ Pipeline.launchCred (copyDue 1) c) ∗ Pipeline.launchCred (copyDue 0) c)
      ∗ Pipeline.launchCred (signalDue 2) c) ∗ Pipeline.launchCred (signalDue 1) c) ∗ Pipeline.launchCred (signalDue 0) c) := by
  rw [← Pipeline.launchCred_add, ← Pipeline.launchCred_add, ← Pipeline.launchCred_add, ← Pipeline.launchCred_add, ← Pipeline.launchCred_add, ← Pipeline.launchCred_add]
  rfl

theorem launch_creds (c : Dev nD) : (Pipeline.launchCred O₀ c : sProp 𝕄) ⊢ creds c := by
  unfold creds
  rw [launch_split, bigSep_three, show (tallyAt (barCell c) () 3 : CellTallies nD τ sig Unit) = tallyAt (barCell c) () 1 + (tallyAt (barCell c) () 1 + tallyAt (barCell c) () 1) by
    rw [tallyAt_add, tallyAt_add], cred_sum, cred_sum]
  iintro ⟨⟨⟨⟨⟨⟨-, HC2⟩, HC1⟩, HC0⟩, HS2⟩, HS1⟩, HS0⟩
  ihave H0 := (signal_credit (F := F) 0 c) $$ HS0
  ihave H1 := (signal_credit (F := F) 1 c) $$ HS1
  ihave H2 := (signal_credit (F := F) 2 c) $$ HS2
  ihave H3 := (copy_credit (F := F) 2 c) $$ HC2
  ihave H4 := (copy_credit (F := F) 1 c) $$ HC1
  ihave H5 := (copy_credit (F := F) 0 c) $$ HC0
  isplitl [H0 H1 H2]
  · isplitl [H0]; · iexact H0
    isplitl [H1] <;> iassumption
  isplitl [H3]; · iexact H3
  isplitl [H4]; · iexact H4
  iexact H5

/-! ## The launch itself -/

/-- The ghost state at launch: the staging semaphores' and the protocol's. -/
def u₀ : UU :=
  (initOf (Pipeline.cells (Pipeline.pin (pcfgs (F := F)) adm) cellOf_inj) (Pipeline.launchToks (Pipeline.pin (pcfgs (F := F)) adm) cellOf_inj),
    launchOf barCells scCells rights)

/-- The protocol's part is dealt in one step, so until then it is all with device 0. -/
def atFirst (c : Dev nD) : sProp 𝕄 := if c = 0 then BI.own (ER (launchOf barCells scCells rights)) else iprop(emp)

theorem atFirst_all : bigSep Finset.univ (atFirst (F := F)) = BI.own (ER (launchOf barCells scCells rights)) := by
  have h : bigSep (Finset.univ.erase (0 : Dev nD)) (atFirst (F := F)) = (BI.emp : sProp 𝕄) := by
    rw [bigSep_congr (Ψ := fun _ => (BI.emp : sProp 𝕄)) fun c hc => ?_]
    · exact BI.bigSep_emp_const _
    · unfold atFirst; rw [if_neg (Finset.ne_of_mem_erase hc)]; rfl
  rw [bigSep_univ_at _ (0 : Dev nD), h]
  unfold atFirst; rw [if_pos rfl]
  exact BI.equiv_iff.mp sep_emp

/-- Device `c`'s own part of the dealt ghost state, -/
def dealt (c : Dev nD) : sProp 𝕄 :=
  iprop(atPos ER (barCell c) 0 ∅ 0 ∗ bigSep Finset.univ (fun i => openTok ER ((c : Thread nD τ), osem i)) ∗ bigSep Finset.univ (toks (F := F) c))
/-- and the rest of what it starts with. -/
def rest (c : Dev nD) : sProp 𝕄 :=
  iprop(StableHlo.held (c : Thread nD τ) bufs (fun b => m (c, b)) ∗ creds c ∗ owes (c : Thread nD τ) (O₀ c) ∅ ∗ ∃ r, prngReg c r)

def start (c : Dev nD) : sProp 𝕄 := iprop(StableHlo.held (c : Thread nD τ) bufs (fun b => m (c, b)) ∗ R m c)

theorem start_of (K : GSem nD τ sig → ℕ) (c : Dev nD) : iprop(recs m K ∗ (dealt c ∗ rest m c)) ⊢ start m c := by
  unfold dealt rest start R T ghost
  iintro ⟨#HR, ⟨Ha, Ho, Ht⟩, Hh, Hc, HO, Hp⟩
  isplitl [Hh]; · iexact Hh
  isplitr [HO]
  · isplitr [Hp]
    · isplitr [Hc]
      · iexists K
        isplitr; · iexact HR
        isplitl [Ha]; · iexact Ha
        isplitl [Ho] <;> iassumption
      iexact Hc
    iexact Hp
  iexists ∅; iexact HO

variable (ρ : Dev nD → PrngReg)

abbrev given (c : Dev nD) : sProp 𝕄 := iprop(unscopedBufs c (fun b => m ((c : Thread nD τ).loc b)) ∗ unscopedSems0 c
  ∗ owes (c : Thread nD τ) (O₀ c) ∅ ∗ Pipeline.launchCred O₀ c ∗ prngReg c (ρ c) ∗ atFirst c)

theorem given_parts (c : Dev nD) : given m ρ c ⊢ iprop(rest m c ∗ (semVal (barCell c) 0 ∗ atFirst c)) := by
  unfold given
  rw [show unscopedBufs c (fun b => m ((c : Thread nD τ).loc b)) = StableHlo.held (c : Thread nD τ) bufs (fun b => m (c, b)) from
    unscoped_held c (fun b => m (c, b)), unscoped_sems]
  unfold rest
  iintro ⟨Hh, Hz, HO, Hcr, Hp, HG⟩
  ihave Hc := (launch_creds (F := F) c) $$ Hcr
  isplitl [Hh Hc HO Hp]
  · isplitl [Hh]; · iexact Hh
    isplitl [Hc]; · iexact Hc
    isplitl [HO]; · iexact HO
    iexists (ρ c); iexact Hp
  isplitl [Hz] <;> iassumption

theorem deal : iprop((bigSep Finset.univ fun c : Dev nD => given m ρ c) ∗ levAts L lv) ⊢ (|={Set.univ}=> bigSep Finset.univ (start m) : sProp 𝕄) := by
  have hz : bigSep Finset.univ (fun c : Dev nD => (semVal (barCell c) 0 : sProp 𝕄)) ⊢ bigSep barCells (fun g => (semVal g 0 : sProp 𝕄)) :=
    Entails.of_eq (by unfold barCells; rw [bigSep_map]; rfl)
  have ha : bigSep barCells (fun g => (atPos ER g 0 ∅ 0 : sProp 𝕄)) ⊢ bigSep Finset.univ (fun c : Dev nD => (atPos ER (barCell c) 0 ∅ 0 : sProp 𝕄)) :=
    Entails.of_eq (by unfold barCells; rw [bigSep_map]; rfl)
  have ho : bigSep scCells (fun g => (openTok ER g : sProp 𝕄))
      ⊢ bigSep Finset.univ (fun c : Dev nD => bigSep Finset.univ fun i => (openTok ER ((c : Thread nD τ), osem i) : sProp 𝕄)) :=
    Entails.of_eq (by unfold scCells; rw [bigSep_map, bigSep_univ_prod]; rfl)
  iintro ⟨H, -⟩
  ihave H' := (show (bigSep Finset.univ fun c : Dev nD => given m ρ c)
      ⊢ (bigSep Finset.univ fun c : Dev nD => iprop(rest m c ∗ (semVal (barCell c) 0 ∗ atFirst c)) : sProp 𝕄) from bigSep_mono fun c _ => given_parts m ρ c) $$ H
  ihave H2 := (Entails.of_eq (bigSep_sep' Finset.univ (rest m) _)) $$ H'; icases H2 with ⟨HB, H3⟩
  ihave H4 := (Entails.of_eq (bigSep_sep' Finset.univ (fun c : Dev nD => (semVal (barCell c) 0 : sProp 𝕄)) atFirst)) $$ H3; icases H4 with ⟨Hv, HG⟩
  ihave Hu := (show bigSep Finset.univ (atFirst (F := F)) ⊢ BI.own (ER (launchOf barCells scCells rights)) from Entails.of_eq atFirst_all) $$ HG
  imod (Rounds.fund_launch ER (sched m) barrier_apart (fun g _ h => h) rights) $$ [Hv Hu] with ⟨%K, -, #Hinv, #Hr, Hat, Hopen, Htok⟩
  · isplitl [Hv]
    · iapply hz $$ Hv
    · iexact Hu
  imodintro
  iapply (bigSep_with_persistent (R := recs m K) (Φ := fun c => iprop(dealt c ∗ rest m c)) fun c _ => start_of m K c)
  isplitr
  · unfold recs
    isplitr; · iexact Hinv
    iexact Hr
  rw [bigSep_sep']
  isplitr [HB]
  · unfold dealt
    rw [bigSep_sep', bigSep_sep']
    isplitl [Hat]; · iapply ha $$ Hat
    isplitl [Hopen]; · iapply ho $$ Hopen
    iapply (Entails.of_eq (rights_dealt (F := F))) $$ Htok
  · iexact HB

/-! ## The run -/

abbrev finish (c : Dev nD) : sProp 𝕄 := iprop(StableHlo.held (c : Thread nD τ) bufs (atExit m c) ∗ semVal (barCell c) 0)

theorem bufs_list (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2)
      ∗ pt c main_v1 (W main_v1) ∗ pt c main_v2 (W main_v2) ∗ pt c main_v3 (W main_v3)) := by
  unfold StableHlo.held
  rw [bigSep_eq_bigSepL_of_eq [Proc.devRef .tc main_arg0, Proc.devRef .tc main_arg1, Proc.devRef .tc main_arg2,
    Proc.devRef .tc main_v1, Proc.devRef .tc main_v2, Proc.devRef .tc main_v3] (by decide) (by decide)]
  rfl

theorem exit_arg0 (c : Dev nD) : atExit m c main_arg0 = m ((c : Thread nD τ).loc main_arg0) :=
  (Function.update_of_ne (show (Proc.devRef .tc main_arg0 : DevRef τ sig) ≠ Proc.devRef .tc main_v3 by decide) (outArr m c) (atEntry m c)).trans (V_main_arg0 m c)
theorem exit_arg1 (c : Dev nD) : atExit m c main_arg1 = m ((c : Thread nD τ).loc main_arg1) :=
  (Function.update_of_ne (show (Proc.devRef .tc main_arg1 : DevRef τ sig) ≠ Proc.devRef .tc main_v3 by decide) (outArr m c) (atEntry m c)).trans (V_main_arg1 m c)
theorem exit_arg2 (c : Dev nD) : atExit m c main_arg2 = m ((c : Thread nD τ).loc main_arg2) :=
  (Function.update_of_ne (show (Proc.devRef .tc main_arg2 : DevRef τ sig) ≠ Proc.devRef .tc main_v3 by decide) (outArr m c) (atEntry m c)).trans (V_main_arg2 m c)
theorem exit_out (c : Dev nD) : atExit m c main_v3 = outAt m c :=
  (Function.update_self (Proc.devRef .tc main_v3) (outArr m c) (atEntry m c)).trans (outArr_eq m c)

set_option backward.isDefEq.respectTransparency.types false in
/-- From any memory with every semaphore at zero, every execution ends; then the arguments are as they were, each device's
    result is `outAt`, and every semaphore is at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v3) = outAt m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := atFirst) (u₀ := u₀ (F := F))
    (hu₀ := by
      unfold u₀
      iintro Hu
      ihave H := (ownU_pair _ _) $$ Hu
      icases H with ⟨HP, HX⟩
      imodintro
      isplitl [HP]; · iexact HP
      rw [atFirst_all]; iexact HX)
    (T₀ := start m) (Tₙ := finish m)
    (hch := ⟨fun c => .rfl, fun c => reg_pre m c, fun c => reg_post m c⟩)
    (hinit := deal m ρ)
    (QY := fun c s => ((s.mem ((Memref.whole main_arg0).view.loc (c : Thread nD τ)) = atExit m c main_arg0
        ∧ s.mem ((Memref.whole main_arg1).view.loc (c : Thread nD τ)) = atExit m c main_arg1
        ∧ s.mem ((Memref.whole main_arg2).view.loc (c : Thread nD τ)) = atExit m c main_arg2)
        ∧ s.mem ((Memref.whole main_v3).view.loc (c : Thread nD τ)) = atExit m c main_v3)
      ∧ s.sem (barCell c) = 0)
    (hfin := fun c s' => by
      dsimp only [finish]; rw [bufs_list]
      iintro ⟨⟨⟨H0, H1, H2, -, -, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ h3⟩, by simpa using hb⟩
      iexact HSI)
    (hQ := fun s h hs => ⟨fun c => by
        obtain ⟨⟨⟨h0, h1, h2⟩, h3⟩, -⟩ := h c
        rw [exit_arg0] at h0; rw [exit_arg1] at h1; rw [exit_arg2] at h2; rw [exit_out] at h3
        exact ⟨⟨h0, h1, h2⟩, h3⟩,
      sem_eq_zero hs fun c sm hsm => by
        obtain rfl := only_barrier sm hsm
        exact (h c).2⟩)

end Proof01
-- ==== Proof.KernelValue.lean ====
/-
  The block a device leaves, read at a row and a column over the extended reals.
-/
module

public import proofs.«01_k».proof.Proof.Launch
public import Idealize.ShloMosaic.Lib.Pointwise
public import Idealize.ShloMosaic.Lib.Pipeline.ValueKit

@[expose] public section

noncomputable section

namespace Proof01

open Cert.KernelIdeal Cert.KernelIdeal.Gen
open Idealize.ShloMosaic Idealize.ShloMosaic.TcCoe
open Idealize.SL.Sem

/-! ## What the windows bring -/

section Blocks

variable {F : FTy → Type} [FloatOps F]
variable (m : (ℓ : Loc nD τ sig) → Buf (Elt F) ℓ)

/-- A device's block of `x` is its argument, -/
theorem xB_eq (c : Dev nD) : xB m c = m ((c : Thread nD τ).loc main_arg0) := by
  rw [← V_main_arg0 m c]
  have e : win0_0.index t0_0 = ![0, 0] := by decide +kernel
  funext x
  unfold xB
  blk_simp [iblk]
  congr 1
  blk_ext [e]

/-- and its rows of `gamma` and of `beta` are its arguments as one row. -/
theorem gB_apply (c : Dev nD) (l : Fin 512) : gB m c (ix2 0 l) = m ((c : Thread nD τ).loc main_arg1) (ix1 l) := by
  have e : win0_1.index t0_0 = ![0, 0] := by decide +kernel
  have h : gB m c = V m c main_v1 := by
    funext x
    unfold gB
    blk_simp [iblk]
    congr 1
    blk_ext [e]
  have hv : V m c main_v1 = shapeCast S1x512 (m ((c : Thread nD τ).loc main_arg1)) shapeCasts_S512_S1x512 := by
    unfold V hostOps0
    after_results_simp
    rfl
  rw [h, hv]
  pointwise []

theorem bB_apply (c : Dev nD) (l : Fin 512) : bB m c (ix2 0 l) = m ((c : Thread nD τ).loc main_arg2) (ix1 l) := by
  have e : win0_2.index t0_0 = ![0, 0] := by decide +kernel
  have h : bB m c = V m c main_v2 := by
    funext x
    unfold bB
    blk_simp [iblk]
    congr 1
    blk_ext [e]
  have hv : V m c main_v2 = shapeCast S1x512 (m ((c : Thread nD τ).loc main_arg2)) shapeCasts_S512_S1x512 := by
    unfold V hostOps0
    after_results_simp
    rfl
  rw [h, hv]
  pointwise []

end Blocks

/-! ## The payloads at an index -/

/-- One device's two row sums. -/
def rowSum (v : S1024x512.Idx → EReal) (r : Fin 1024) : EReal := ∑ k : Fin 512, v (ix2 r k)
def rowSq (v : S1024x512.Idx → EReal) (r : Fin 1024) : EReal := ∑ k : Fin 512, v (ix2 r k) * v (ix2 r k)

/-- The kernel's `1 / 2048` and the `1e-5` both sides add to the variance. -/
def inv2048 : EReal := Ideal.ofBits .f32 0x3A000000#32
def eps : EReal := Ideal.ofBits .f32 0x3727C5AC#32

/-- An entry as the kernel normalises it: `s` and `q` are the whole row's sum and sum of squares. -/
def kernelEntry (s q x g b : EReal) : EReal :=
  (x * g - s * inv2048 * g) * Ideal.rsqrt (q * inv2048 - s * inv2048 * (s * inv2048) + eps) + b

theorem statsOf_zero (v : S1024x512.Idx → EReal) (r : Fin 1024) : statsOf (F := Ideal) v (ix2 0 r) = rowSum v r := by
  unfold statsOf
  rw [if_pos (show ((ix2 0 r : S2x1024.Idx) 0).val = 0 from rfl)]
  pointwise [k0_pay3, k0_pay2, rowSum]

theorem statsOf_one (v : S1024x512.Idx → EReal) (r : Fin 1024) : statsOf (F := Ideal) v (ix2 1 r) = rowSq v r := by
  unfold statsOf
  rw [if_neg (show ¬((ix2 1 r : S2x1024.Idx) 0).val = 0 from Nat.one_ne_zero)]
  pointwise [k0_pay4, k0_pay2, rowSq]

section Payloads

variable (u v w z : S2x1024.Idx → EReal)

theorem pay6_apply (i : S2x1024.Idx) :
    k0_pay6 (F := Ideal) u (asSlot (F := Ideal) v) (asSlot (F := Ideal) w) (asSlot (F := Ideal) z) i = u i + v i + w i + z i := by
  show u i + shapeCast S2x1024 (asSlot (F := Ideal) v) shapeCasts_S1x2x1024_S2x1024 i + shapeCast S2x1024 (asSlot (F := Ideal) w) shapeCasts_S1x2x1024_S2x1024 i
    + shapeCast S2x1024 (asSlot (F := Ideal) z) shapeCasts_S1x2x1024_S2x1024 i = _
  rw [asSlot_cast, asSlot_cast, asSlot_cast]

theorem pay7_apply (r : Fin 1024) :
    k0_pay7 (F := Ideal) u (asSlot (F := Ideal) v) (asSlot (F := Ideal) w) (asSlot (F := Ideal) z) (ix2 0 r)
      = (u (ix2 0 r) + v (ix2 0 r) + w (ix2 0 r) + z (ix2 0 r)) * inv2048 := by
  pointwise [k0_pay7, pay6_apply, inv2048]

theorem pay8_apply (r : Fin 1024) :
    k0_pay8 (F := Ideal) u (asSlot (F := Ideal) v) (asSlot (F := Ideal) w) (asSlot (F := Ideal) z) (ix2 r 0)
      = (u (ix2 0 r) + v (ix2 0 r) + w (ix2 0 r) + z (ix2 0 r)) * inv2048 := by
  rw [← pay7_apply]
  pointwise [k0_pay8]

theorem pay9_apply (r : Fin 1024) :
    k0_pay9 (F := Ideal) u (asSlot (F := Ideal) v) (asSlot (F := Ideal) w) (asSlot (F := Ideal) z) (ix2 r 0)
      = Ideal.rsqrt ((u (ix2 1 r) + v (ix2 1 r) + w (ix2 1 r) + z (ix2 1 r)) * inv2048
          - (u (ix2 0 r) + v (ix2 0 r) + w (ix2 0 r) + z (ix2 0 r)) * inv2048
            * ((u (ix2 0 r) + v (ix2 0 r) + w (ix2 0 r) + z (ix2 0 r)) * inv2048) + eps) := by
  rw [← pay7_apply]
  pointwise [k0_pay9, pay6_apply, inv2048, eps]

end Payloads

theorem pay1_apply (x : S1024x512.Idx → EReal) (g b : S1x512.Idx → EReal) (u v : S1024x1.Idx → EReal) (r : Fin 1024) (l : Fin 512) :
    k0_pay1 (F := Ideal) (k0_pay5 (F := Ideal) (k0_pay2 (F := Ideal) x) g) u v g b (ix2 r l)
      = (x (ix2 r l) * g (ix2 0 l) - u (ix2 r 0) * g (ix2 0 l)) * v (ix2 r 0) + b (ix2 0 l) := by
  pointwise [k0_pay1, k0_pay5, k0_pay2]

/-! ## The block left -/

variable (m : (ℓ : Loc nD τ sig) → Buf (Elt Ideal) ℓ)

/-- A device's arguments. -/
abbrev argX (c : Dev nD) : S1024x512.Idx → EReal := m ((c : Thread nD τ).loc main_arg0)
abbrev argG (c : Dev nD) : S512.Idx → EReal := m ((c : Thread nD τ).loc main_arg1)
abbrev argB (c : Dev nD) : S512.Idx → EReal := m ((c : Thread nD τ).loc main_arg2)

/-- A quantity of each device, summed in the order in which device `c` meets them: its own, then its three peers'. -/
def ringSum (f : Dev nD → EReal) (c : Dev nD) : EReal := f c + f (peer 0 c) + f (peer 1 c) + f (peer 2 c)

theorem outAt_apply (c : Dev nD) (r : Fin 1024) (l : Fin 512) :
    outAt m c (ix2 r l)
      = kernelEntry (ringSum (fun d => rowSum (argX m d) r) c) (ringSum (fun d => rowSq (argX m d) r) c)
          (argX m c (ix2 r l)) (argG m c (ix1 l)) (argB m c (ix1 l)) := by
  unfold outAt
  rw [pay1_apply, pay8_apply, pay9_apply, gB_apply, bB_apply]
  unfold stat
  simp only [statsOf_zero, statsOf_one, xB_eq]
  rfl

end Proof01

end
-- ==== Proof.ReferenceValue.lean ====
/-
  The reference's result, read at a row and a column over the extended reals.
-/
module

public import proofs.«01_k».proof.Proof.Gen.ReferenceIdeal.Run
public import proofs.«01_k».proof.Proof.Gen.ReferenceIdeal.Read
public import Idealize.ShloMosaic.Lib.Pointwise

@[expose] public section

noncomputable section

namespace Proof01

open Cert.ReferenceIdeal Cert.ReferenceIdeal.Gen Cert.ReferenceIdeal.Read
open Idealize.ShloMosaic Idealize.ShloMosaic.TcCoe

/-- The row length and the `1e-5` added to the variance, as the reference writes them. -/
def width : EReal := Ideal.ofBits .f32 0x45000000#32
def refEps : EReal := Ideal.ofBits .f32 0x3727C5AC#32

theorem width_eq : width = ((2048 : ℝ) : EReal) := by
  unfold width
  simp [Ideal.ofBits, Ideal.ieee, -EReal.coe_mul]; norm_num

theorem zero_count : FloatOps.sitofp (F := Ideal) .f32 (0#32) = (0 : EReal) := by
  show (((0#32 : BitVec 32).toInt : ℝ) : EReal) = 0
  simp

/-- The mean of a row, its variance about that mean, -/
def refMean (row : Fin 2048 → EReal) : EReal := Ideal.div (∑ k, row k) width
def refVar (row : Fin 2048 → EReal) : EReal := Ideal.div (∑ k, (row k - refMean row) * (row k - refMean row)) width

/-- and an entry normalised by the two. -/
def refEntry (row : Fin 2048 → EReal) (x g b : EReal) : EReal :=
  Ideal.div (g * (x - refMean row)) (Ideal.sqrt (refVar row + refEps)) + b

theorem reference_apply (x : S1024x2048.Idx → EReal) (g b : S2048.Idx → EReal) (r : Fin 1024) (k : Fin 2048) :
    val_main_v17 (F := Ideal) x g b (ix2 r k) = refEntry (fun j => x (ix2 r j)) (x (ix2 r k)) (g (ix1 k)) (b (ix1 k)) := by
  pointwise [val_main_cst, val_main_v0, val_main_v1, val_main_cst_0, val_main_v2, val_main_v3, val_main_c, val_main_call0_cst,
    val_main_call0_v0, val_main_call0_v1, val_main_call0_cst_0, val_main_call0_v2, val_main_call0_v3, val_main_call0_v4,
    val_main_call0_v5, val_main_call0_v6, val_main_call0_v7, val_main_call0_cst_1, val_main_call0_v8, val_main_call0_cst_2,
    val_main_call0_v9, val_main_call0_v10, val_main_call0_v11, val_main_call0_v12, val_main_call0_cst_3, val_main_call0_v13,
    val_main_call0_cst_4, val_main_call0_call0_v0, val_main_call0_call0_v1, val_main_v4, val_main_v5, val_main_v6, val_main_v7,
    val_main_v8, val_main_v9, val_main_cst_1, val_main_v10, val_main_v11, val_main_v12, val_main_v13, val_main_v14,
    val_main_v15, val_main_v16, val_main_v17]
  have hw : (0 : EReal) < Ideal.ofBits .f32 0x45000000#32 := by
    show (0 : EReal) < width
    rw [width_eq]; norm_num
  rw [zero_count, sub_zero, if_pos hw]
  rfl

end Proof01

end
-- ==== Proof.Equation.lean ====
/-
  The kernel's entry and the reference's entry are the same extended real, for a finite row and a finite `gamma`.

  The kernel adds up four devices' sums and takes the variance as the mean of the squares less the square of the mean; the
  reference takes one sum over the row and the mean of the squared deviations. Over the reals the two variances agree.
-/
module

public import proofs.«01_k».proof.Proof.KernelValue
public import proofs.«01_k».proof.Proof.ReferenceValue
public import Mathlib.Algebra.Order.BigOperators.Ring.Finset

@[expose] public section

noncomputable section

namespace Proof01

open Idealize.ShloMosaic

/-! ## The constants -/

theorem inv2048_eq : inv2048 = ((2048⁻¹ : ℝ) : EReal) := by
  unfold inv2048
  simp [Ideal.ofBits, Ideal.ieee, -EReal.coe_mul]; norm_num

/-- The `1e-5` of both sides is a positive real. -/
theorem eps_pos : ∃ e : ℝ, 0 < e ∧ eps = (e : EReal) := by
  refine ⟨10995116 * (2 : ℝ) ^ (-40 : ℤ), by positivity, ?_⟩
  unfold eps
  simp [Ideal.ofBits, Ideal.ieee, -EReal.coe_mul]

theorem refEps_eq : refEps = eps := rfl

/-! ## Real numbers behind the extended ones -/

theorem coe_sum {n : ℕ} (a : Fin n → ℝ) : ((∑ k, a k : ℝ) : EReal) = ∑ k, (a k : EReal) := by
  induction n with
  | zero => simp
  | succ n ih => rw [Fin.sum_univ_succ, Fin.sum_univ_succ, EReal.coe_add, ih]

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem sqrt_coe (x : ℝ) (hx : 0 ≤ x) : Ideal.sqrt (x : EReal) = ((Real.sqrt x : ℝ) : EReal) := by
  show (if x < 0 then ⊥ else (Real.sqrt x : EReal)) = _
  rw [if_neg (not_lt.mpr hx)]

theorem rsqrt_coe (x : ℝ) (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr hx.le), if_neg hx.ne']

/-! ## The two variances -/

theorem variance_eq (a : Fin 2048 → ℝ) (μ : ℝ) (hμ : μ = (∑ k, a k) * 2048⁻¹) :
    (∑ k, a k * a k) * 2048⁻¹ - μ * μ = (∑ k, (a k - μ) * (a k - μ)) / 2048 := by
  have h : ∑ k, (a k - μ) * (a k - μ) = (∑ k, a k * a k) - 2 * μ * (∑ k, a k) + 2048 * (μ * μ) := by
    have e : ∀ k, (a k - μ) * (a k - μ) = a k * a k - 2 * μ * a k + μ * μ := fun k => by ring
    simp only [e, Finset.sum_add_distrib, Finset.sum_sub_distrib, ← Finset.mul_sum, Finset.sum_const, Finset.card_univ,
      Fintype.card_fin, nsmul_eq_mul]
    norm_num
    ring
  have hs : ∑ k, a k = 2048 * μ := by rw [hμ]; ring
  rw [h, hs]; ring

/-- The two entries agree. -/
theorem entry_eq (a : Fin 2048 → ℝ) (x g : ℝ) (b : EReal) :
    kernelEntry (∑ k, (a k : EReal)) (∑ k, (a k : EReal) * (a k : EReal)) x g b = refEntry (fun k => (a k : EReal)) x g b := by
  obtain ⟨e, he, hE⟩ := eps_pos
  have hm : refMean (fun k => (a k : EReal)) = (((∑ k, a k) * 2048⁻¹ : ℝ) : EReal) := by
    unfold refMean
    rw [← coe_sum, width_eq, div_coe _ _ (by norm_num), div_eq_mul_inv]
  generalize hμ : (∑ k, a k) * 2048⁻¹ = μ at hm
  have hv : refVar (fun k => (a k : EReal)) = (((∑ k, (a k - μ) * (a k - μ)) / 2048 : ℝ) : EReal) := by
    unfold refVar
    simp only [hm, ← EReal.coe_sub, ← EReal.coe_mul]
    rw [← coe_sum, width_eq, div_coe _ _ (by norm_num)]
  have hk : (∑ k, (a k : EReal)) * inv2048 = (μ : EReal) := by
    rw [← coe_sum, inv2048_eq, ← EReal.coe_mul, hμ]
  have hq : (∑ k, (a k : EReal) * (a k : EReal)) * inv2048 - (μ : EReal) * (μ : EReal)
      = (((∑ k, (a k - μ) * (a k - μ)) / 2048 : ℝ) : EReal) := by
    simp only [← EReal.coe_mul]
    rw [← coe_sum, inv2048_eq, ← EReal.coe_mul, ← EReal.coe_sub, variance_eq a μ hμ.symm]
  have hp : 0 < (∑ k, (a k - μ) * (a k - μ)) / 2048 + e :=
    add_pos_of_nonneg_of_pos (div_nonneg (Finset.sum_nonneg fun k _ => mul_self_nonneg _) (by norm_num)) he
  unfold kernelEntry refEntry
  rw [hk, hq, hm, hv, refEps_eq, hE, ← EReal.coe_add, rsqrt_coe _ hp, sqrt_coe _ hp.le]
  simp only [← EReal.coe_mul, ← EReal.coe_sub]
  rw [div_coe _ _ (Real.sqrt_pos.mpr hp).ne', show g * (x - μ) = x * g - μ * g by ring, div_eq_mul_inv (x * g - μ * g)]

/-! ## A row is its four blocks -/

/-- The four devices are met in some order; the sum is over all of them. -/
theorem ringSum_eq (f : Fin 4 → EReal) (c : Fin 4) : ringSum f c = ∑ d, f d := by
  rw [Fin.sum_univ_four]
  fin_cases c
  · show f 0 + f 1 + f 2 + f 3 = _; rfl
  · show f 1 + f 2 + f 3 + f 0 = _; ac_rfl
  · show f 2 + f 3 + f 0 + f 1 = _; ac_rfl
  · show f 3 + f 0 + f 1 + f 2 = _; ac_rfl

/-- Column `l` of block `d` within the row. -/
def column (d : Fin 4) (l : Fin 512) : Fin 2048 := ⟨d.val * 512 + l.val, by omega⟩

theorem sum_blocks (f : Fin 2048 → EReal) : ∑ d : Fin 4, ∑ l : Fin 512, f (column d l) = ∑ k, f k := by
  rw [← Fintype.sum_prod_type' (f := fun d l => f (column d l))]
  refine Fintype.sum_equiv (finProdFinEquiv (m := 4) (n := 512)) _ _ fun p => congrArg f (Fin.ext ?_)
  show p.1.val * 512 + p.2.val = p.2.val + 512 * p.1.val
  omega

/-! ## From the arguments to the result -/

/-- An extended real whose absolute value is below infinity is a real. -/
theorem real_of_abs_lt (x : EReal) (h : max x (-x) < ⊤) : ∃ a : ℝ, x = (a : EReal) := by
  induction x with
  | bot => simp at h
  | top => simp at h
  | coe a => exact ⟨a, rfl⟩

section Result

open Cert.KernelIdeal Cert.KernelIdeal.Gen Idealize.ShloMosaic.TcCoe

variable (m : (ℓ : Loc nD τ sig) → Buf (Elt Ideal) ℓ)

/-- The devices hold the blocks of `x`, `gamma` and `beta`, and `x` and `gamma` are finite: each leaves its block of the
    reference's result. -/
theorem outAt_eq (X : Cert.ReferenceIdeal.S1024x2048.Idx → EReal) (G B : Cert.ReferenceIdeal.S2048.Idx → EReal)
    (hX : ∀ (d : Fin 4) r l, argX m d (ix2 r l) = X (ix2 r (column d l))) (hG : ∀ (d : Fin 4) l, argG m d (ix1 l) = G (ix1 (column d l)))
    (hB : ∀ (d : Fin 4) l, argB m d (ix1 l) = B (ix1 (column d l)))
    (fX : ∀ r k, ∃ a : ℝ, X (ix2 r k) = (a : EReal)) (fG : ∀ k, ∃ a : ℝ, G (ix1 k) = (a : EReal))
    (c : Fin 4) (r : Fin 1024) (l : Fin 512) :
    outAt m c (ix2 r l) = Cert.ReferenceIdeal.Read.val_main_v17 (F := Ideal) X G B (ix2 r (column c l)) := by
  choose a ha using fX r
  obtain ⟨g, hg⟩ := fG (column c l)
  have hs : ringSum (fun d => rowSum (argX m d) r) c = ∑ k, (a k : EReal) := by
    rw [ringSum_eq, ← sum_blocks]
    exact Finset.sum_congr rfl fun d _ => Finset.sum_congr rfl fun j _ => (hX d r j).trans (ha _)
  have hq : ringSum (fun d => rowSq (argX m d) r) c = ∑ k, (a k : EReal) * (a k : EReal) := by
    rw [ringSum_eq, ← sum_blocks]
    exact Finset.sum_congr rfl fun d _ => Finset.sum_congr rfl fun j _ => by rw [hX d r j, ha]
  rw [outAt_apply, reference_apply, hs, hq, hX c r l, hG c l, hB c l, funext ha, ha, hg]
  exact entry_eq a _ g _

end Result

end Proof01

end
-- ==== Proof.Finite.lean ====
/-
  What the precondition says of one device's blocks of `x` and `gamma`: every entry is a real number.
-/
module

public import proofs.«01_k».proof.Pre_finite_entries_KernelIdeal
public import proofs.«01_k».proof.Proof.Equation

@[expose] public section

noncomputable section

namespace Proof01

open Idealize.ShloMosaic

theorem infinity_eq : Ideal.ofBits .f32 0x7F800000#32 = (⊤ : EReal) := by
  simp [Ideal.ofBits, Ideal.ieee]

theorem real_of_below (x : EReal) (h : FloatOps.cmpf (F := Ideal) (φ := .f32) .olt (max x (-x)) (Ideal.ofBits .f32 0x7F800000#32) = 1#1) :
    ∃ a : ℝ, x = (a : EReal) := by
  rw [infinity_eq] at h
  refine real_of_abs_lt x ?_
  by_contra hn
  have : FloatOps.cmpf (F := Ideal) (φ := .f32) .olt (max x (-x)) (⊤ : EReal) = BitVec.ofBool (decide (max x (-x) < (⊤ : EReal))) := rfl
  rw [this, decide_eq_false hn] at h
  exact absurd h (by decide)

section

variable [Cert.Pre_finite_entries_KernelIdeal.Facts]
variable (x : Cert.Pre_finite_entries_KernelIdeal.S1024x512.Idx → EReal) (g b : Cert.Pre_finite_entries_KernelIdeal.S512.Idx → EReal)

theorem x_real (h : (Cert.Pre_finite_entries_KernelIdeal.fn (F := Ideal) x g b).1 = fun _ => 1#1) (r : Fin 1024) (l : Fin 512) :
    ∃ a : ℝ, x (ix2 r l) = (a : EReal) :=
  real_of_below _ (congrFun h (ix2 r l))

theorem g_real (h : (Cert.Pre_finite_entries_KernelIdeal.fn (F := Ideal) x g b).2 = fun _ => 1#1) (l : Fin 512) :
    ∃ a : ℝ, g (ix1 l) = (a : EReal) :=
  real_of_below _ (congrFun h (ix1 l))

end

end Proof01

end
-- ==== Proof.lean ====
/-
  The certificate's claim, from the launch (Proof/Launch.lean) and the equation of the two values (Proof/Equation.lean).

  The kernel's run is proved once, for any float values: it gives both frames of the kernel. Its result is met with the
  reference's at each row and column of each device's block.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Finite

@[expose] public section

noncomputable section

namespace Cert.Proof

open Idealize.ShloMosaic Idealize.ShloMosaic.TcCoe Idealize.SL.Sem Proof01

theorem finite_facts : Cert.Pre_finite_entries_KernelIdeal.Facts := ⟨by decide, by decide⟩
theorem finite_facts_ref : Cert.Pre_finite_entries_ReferenceIdeal.Facts := ⟨by decide, by decide⟩

/-! ## The programs run -/

/-- The kernel's frame, for any float values: both texts of the kernel are this one. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2))
        ∧ r.2.sem = fun _ => 0) :=
  (θ_run Cert.KernelIdeal.defs _ _).mono (fun _ h => ⟨fun c => (h.1 c).1, h.2⟩) (run_main (F := F) m ρ)

/-- The two texts' body tables are one table, -/
theorem bodies_eq : @Cert.Kernel.defs₀ Bits _ Cert.Kernel.Gen.facts = @Cert.KernelIdeal.defs₀ Bits _ Cert.KernelIdeal.Gen.facts :=
  congrArg Defs.onTc (funext fun l => funext fun a => by
    match l, a with
    | 0, (t, s) => rfl)

theorem tables_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

/-- so the first text's frame is the second's. -/
theorem frame_kernel : Cert.quiescent_Kernel := fun m ρ _ => by
  rw [tables_eq]
  exact frame_any (F := Bits) m ρ

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-! ## The results agree -/

section

variable (m : (ℓ : Loc Cert.KernelIdeal.nD Cert.KernelIdeal.τ Cert.KernelIdeal.sig) → Buf (Elt Ideal) ℓ)

/-- A column of the whole row is a column of one of its four blocks. -/
theorem column_split (k : Fin 2048) : ∃ (d : Fin 4) (l : Fin 512), k = column d l :=
  ⟨⟨k.val / 512, by omega⟩, ⟨k.val % 512, by omega⟩, Fin.ext (by show k.val = k.val / 512 * 512 + k.val % 512; omega)⟩

/-- Where a block's entries are in the whole arrays. -/
theorem place2 (h : Layout.Tiles ⟨2, ![1024, 512]⟩ ⟨2, ![1024, 2048]⟩ 1 4) (d : Fin 4) (r : Fin 1024) (l : Fin 512) :
    h.idx d (ix2 r l) = ix2 r (column d l) :=
  funext fun a => Fin.ext (by match a with | ⟨0, _⟩ => rfl | ⟨1, _⟩ => rfl)

theorem place1 (h : Layout.Tiles ⟨1, ![512]⟩ ⟨1, ![2048]⟩ 0 4) (d : Fin 4) (l : Fin 512) : h.idx d (ix1 l) = ix1 (column d l) :=
  funext fun a => Fin.ext (by match a with | ⟨0, _⟩ => rfl)

theorem block_eq (hpre : Cert.Pre_KernelIdeal_finite_entries_KernelIdeal (hPre_finite_entries_KernelIdeal := finite_facts) m)
    (X : Cert.ReferenceIdeal.S1024x2048.Idx → EReal) (G B : Cert.ReferenceIdeal.S2048.Idx → EReal)
    (hX : ∀ d : Fin 4, argX m d = Layout.block ⟨2, ![1024, 512]⟩ ⟨2, ![1024, 2048]⟩ 1 4 d X)
    (hG : ∀ d : Fin 4, argG m d = Layout.block ⟨1, ![512]⟩ ⟨1, ![2048]⟩ 0 4 d G)
    (hB : ∀ d : Fin 4, argB m d = Layout.block ⟨1, ![512]⟩ ⟨1, ![2048]⟩ 0 4 d B) (c : Fin 4) :
    outAt m c = Layout.block ⟨2, ![1024, 512]⟩ ⟨2, ![1024, 2048]⟩ 1 4 c (Cert.ReferenceIdeal.Read.val_main_v17 (F := Ideal) X G B) := by
  have pX : ∀ (d : Fin 4) r l, argX m d (ix2 r l) = X (ix2 r (column d l)) := fun d r l =>
    (congrFun (hX d) (ix2 r l)).trans (congrArg X (place2 _ d r l))
  have pG : ∀ (d : Fin 4) l, argG m d (ix1 l) = G (ix1 (column d l)) := fun d l =>
    (congrFun (hG d) (ix1 l)).trans (congrArg G (place1 _ d l))
  have pB : ∀ (d : Fin 4) l, argB m d (ix1 l) = B (ix1 (column d l)) := fun d l =>
    (congrFun (hB d) (ix1 l)).trans (congrArg B (place1 _ d l))
  have fX : ∀ r k, ∃ a : ℝ, X (ix2 r k) = (a : EReal) := fun r k => by
    obtain ⟨d, l, rfl⟩ := column_split k
    rw [← pX]
    letI := finite_facts
    exact x_real _ _ _ (hpre d).1 r l
  have fG : ∀ k, ∃ a : ℝ, G (ix1 k) = (a : EReal) := fun k => by
    obtain ⟨d, l, rfl⟩ := column_split k
    rw [← pG]
    letI := finite_facts
    exact g_real _ _ _ (hpre d).2 l
  funext i
  obtain ⟨r, l, rfl⟩ : ∃ (r : Fin 1024) (l : Fin 512), i = ix2 r l := ⟨i 0, i 1, eq_ix2 i⟩
  refine (outAt_eq m X G B pX pG pB fX fG c r l).trans ?_
  exact congrArg (Cert.ReferenceIdeal.Read.val_main_v17 (F := Ideal) X G B) (place2 _ c r l).symm

end

theorem algebraic : Cert.algebraic_KernelIdeal_ReferenceIdeal_pre_finite_entries_KernelIdeal
    (hPre_finite_entries_KernelIdeal := finite_facts) := by
  intro m g m' g' hpre hagree
  refine ⟨_, (θ_run Cert.KernelIdeal.defs _ _).mono (fun r h c => ⟨((h.1 c).2).trans
      (block_eq m hpre _ _ _ (fun d => (hagree d).1) (fun d => (hagree d).2.1) (fun d => (hagree d).2.2) c), (h.1 c).1⟩)
      (run_main (F := Ideal) m g), ?_⟩
  exact (θ_run Cert.ReferenceIdeal.defs _ _).mono
    (fun r h => ⟨(h 0).1.trans (Cert.ReferenceIdeal.Read.val_main_v17_eq (F := Ideal) _ _ _), (h 0).2⟩)
    (Cert.ReferenceIdeal.Value.run (F := Ideal) m' g')

theorem claim : Cert.Claim :=
  ⟨Cert.Kernel.Gen.facts, Cert.KernelIdeal.Gen.facts, Cert.ReferenceIdeal.Gen.facts, finite_facts, finite_facts_ref,
    frame_kernel, fun m ρ _ => frame_any m ρ, fun m ρ _ => frame_any m ρ, fun m ρ _ => frame_reference m ρ,
    fun m ρ _ => frame_reference m ρ, trivial, algebraic⟩

end Cert.Proof

end
